-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_window_scores [hPre_finite_window_scores : Cert.Pre_finite_window_scores.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_window_scores.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_window_scores [hPre_finite_window_scores : Cert.Pre_finite_window_scores.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_window_scores.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_window_scores [hKernel7Ideal : Cert.Kernel7Ideal.Facts] [hPre_finite_window_scores : Cert.Pre_finite_window_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_window_scores m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_window_scores [hReference7Ideal : Cert.Reference7Ideal.Facts] [hPre_finite_window_scores : Cert.Pre_finite_window_scores.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_window_scores m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "sm_scale" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "log2e" .f32 0x3FB8AA3B#32 (((Real.log 2)⁻¹ : ℝ) : EReal)

def algebraic_Kernel7Ideal_Reference7Ideal_pre_finite_window_scores [hKernel7Ideal : Cert.Kernel7Ideal.Facts] [hReference7Ideal : Cert.Reference7Ideal.Facts] [hPre_finite_window_scores : Cert.Pre_finite_window_scores.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_window_scores m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_window_scores : Cert.Pre_finite_window_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_window_scores (hKernel7Ideal := hKernel7Ideal) (hPre_finite_window_scores := hPre_finite_window_scores)
    ∧ quiescent_Reference7Ideal (hReference7Ideal := hReference7Ideal)
    ∧ quiescent_Reference7Ideal_pre_finite_window_scores (hReference7Ideal := hReference7Ideal) (hPre_finite_window_scores := hPre_finite_window_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_window_scores (hKernel7Ideal := hKernel7Ideal) (hReference7Ideal := hReference7Ideal) (hPre_finite_window_scores := hPre_finite_window_scores)
-- ==== Pre_finite_scores.lean ====
abbrev S2x4096x16384 : Shape := ⟨3, ![2, 4096, 16384]⟩
abbrev S2x32x4096x128 : Shape := ⟨4, ![2, 32, 4096, 128]⟩
abbrev S2x4096x8192 : Shape := ⟨3, ![2, 4096, 8192]⟩
abbrev S_ : Shape := ⟨0, ![]⟩

class Facts : Prop where
  slices_S2x4096x16384_S2x4096x8192_0_0_0 : S2x4096x16384.Slices ![0, 0, 0] S2x4096x8192
  bitsLt_bf16_f32 : FTy.bits .bf16 < FTy.bits .f32
  bcast_S_S2x4096x8192 : S_.BroadcastsInDim S2x4096x8192 (![] : Fin 0 → Fin S2x4096x8192.rank)
  reducesTo_S2x4096x8192_S_d0_1_2 : S2x4096x8192.ReducesTo [0, 1, 2] S_
  h_S_ : 0 < S_.numel
  bcast_S_S2x32x4096x128 : S_.BroadcastsInDim S2x32x4096x128 (![] : Fin 0 → Fin S2x32x4096x128.rank)
  reducesTo_S2x32x4096x128_S_d0_1_2_3 : S2x32x4096x128.ReducesTo [0, 1, 2, 3] S_

variable [Facts]

def fn {F : FTy → Type} [FloatOps F] (main_arg0 : FVec F S2x4096x16384 .bf16) (main_arg1 : FVec F S2x32x4096x128 .bf16) (main_arg2 : FVec F S2x32x4096x128 .bf16) : IVec S_ 1 :=
  let main_v0 : FVec F S2x4096x8192 .bf16 := (extractStridedSlice S2x4096x8192 ![0, 0, 0] · slices_S2x4096x16384_S2x4096x8192_0_0_0) main_arg0
  let main_v1 : FVec F S2x4096x8192 .f32 := (extf .f32 · bitsLt_bf16_f32) main_v0
  let main_v2 : FVec F S2x4096x8192 .f32 := Host.absf main_v1
  let main_cst : FVec F S_ .f32 := constant S_ .f32 0x7F800000#32
  let main_v3 : FVec F S2x4096x8192 .f32 := broadcastInDim S2x4096x8192 ![] bcast_S_S2x4096x8192 main_cst
  let main_v4 : IVec S2x4096x8192 1 := cmpf .olt main_v2 main_v3
  let main_c : IVec S_ 1 := constantI S_ 1 1#1
  let main_v5 : IVec S_ 1 := (fun x v => Host.reduce IntOp.andi x v reducesTo_S2x4096x8192_S_d0_1_2 h_S_) main_v4 main_c
  let main_v6 : FVec F S2x32x4096x128 .f32 := (extf .f32 · bitsLt_bf16_f32) main_arg1
  let main_v7 : FVec F S2x32x4096x128 .f32 := Host.absf main_v6
  let main_cst_0 : FVec F S_ .f32 := constant S_ .f32 0x7F800000#32
  let main_v8 : FVec F S2x32x4096x128 .f32 := broadcastInDim S2x32x4096x128 ![] bcast_S_S2x32x4096x128 main_cst_0
  let main_v9 : IVec S2x32x4096x128 1 := cmpf .olt main_v7 main_v8
  let main_c_1 : IVec S_ 1 := constantI S_ 1 1#1
  let main_v10 : IVec S_ 1 := (fun x v => Host.reduce IntOp.andi x v reducesTo_S2x32x4096x128_S_d0_1_2_3 h_S_) main_v9 main_c_1
  let main_v11 : IVec S_ 1 := andi main_v5 main_v10
  let main_v12 : FVec F S2x32x4096x128 .f32 := (extf .f32 · bitsLt_bf16_f32) main_arg2
  let main_v13 : FVec F S2x32x4096x128 .f32 := Host.absf main_v12
  let main_cst_2 : FVec F S_ .f32 := constant S_ .f32 0x7F800000#32
  let main_v14 : FVec F S2x32x4096x128 .f32 := broadcastInDim S2x32x4096x128 ![] bcast_S_S2x32x4096x128 main_cst_2
  let main_v15 : IVec S2x32x4096x128 1 := cmpf .olt main_v13 main_v14
  let main_c_3 : IVec S_ 1 := constantI S_ 1 1#1
  let main_v16 : IVec S_ 1 := (fun x v => Host.reduce IntOp.andi x v reducesTo_S2x32x4096x128_S_d0_1_2_3 h_S_) main_v15 main_c_3
  let main_v17 : IVec S_ 1 := andi main_v11 main_v16
  main_v17
-- ==== Pre_finite_window_scores.lean ====
abbrev S2x4096x8192 : Shape := ⟨3, ![2, 4096, 8192]⟩
abbrev S2x4096x1024 : Shape := ⟨3, ![2, 4096, 1024]⟩
abbrev S32 : Shape := ⟨1, ![32]⟩
abbrev S2x4096x4096 : Shape := ⟨3, ![2, 4096, 4096]⟩
abbrev S_ : Shape := ⟨0, ![]⟩
abbrev S2x4096x512 : Shape := ⟨3, ![2, 4096, 512]⟩

class Facts : Prop where
  slices_S2x4096x8192_S2x4096x4096_0_0_0 : S2x4096x8192.Slices ![0, 0, 0] S2x4096x4096
  bitsLt_bf16_f32 : FTy.bits .bf16 < FTy.bits .f32
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  slices_S2x4096x1024_S2x4096x512_0_0_0 : S2x4096x1024.Slices ![0, 0, 0] S2x4096x512
  bcast_S_S2x4096x512 : S_.BroadcastsInDim S2x4096x512 (![] : Fin 0 → Fin S2x4096x512.rank)
  reducesTo_S2x4096x512_S_d0_1_2 : S2x4096x512.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S2x4096x8192 .bf16) (main_arg1 : FVec F S2x4096x1024 .bf16) (main_arg2 : FVec F S32 .f32) : IVec S_ 1 :=
  let main_v0 : FVec F S2x4096x4096 .bf16 := (extractStridedSlice S2x4096x4096 ![0, 0, 0] · slices_S2x4096x8192_S2x4096x4096_0_0_0) main_arg0
  let main_v1 : FVec F S2x4096x4096 .f32 := (extf .f32 · bitsLt_bf16_f32) main_v0
  let main_v2 : FVec F S2x4096x4096 .f32 := Host.absf main_v1
  let main_cst : FVec F S_ .f32 := constant S_ .f32 0x7F800000#32
  let main_v3 : FVec F S2x4096x4096 .f32 := broadcastInDim S2x4096x4096 ![] bcast_S_S2x4096x4096 main_cst
  let main_v4 : IVec S2x4096x4096 1 := cmpf .olt main_v2 main_v3
  let main_c : IVec S_ 1 := constantI S_ 1 1#1
  let main_v5 : IVec S_ 1 := (fun x v => Host.reduce IntOp.andi x v reducesTo_S2x4096x4096_S_d0_1_2 h_S_) main_v4 main_c
  let main_v6 : FVec F S2x4096x512 .bf16 := (extractStridedSlice S2x4096x512 ![0, 0, 0] · slices_S2x4096x1024_S2x4096x512_0_0_0) main_arg1
  let main_v7 : FVec F S2x4096x512 .f32 := (extf .f32 · bitsLt_bf16_f32) main_v6
  let main_v8 : FVec F S2x4096x512 .f32 := Host.absf main_v7
  let main_cst_0 : FVec F S_ .f32 := constant S_ .f32 0x7F800000#32
  let main_v9 : FVec F S2x4096x512 .f32 := broadcastInDim S2x4096x512 ![] bcast_S_S2x4096x512 main_cst_0
  let main_v10 : IVec S2x4096x512 1 := cmpf .olt main_v8 main_v9
  let main_c_1 : IVec S_ 1 := constantI S_ 1 1#1
  let main_v11 : IVec S_ 1 := (fun x v => Host.reduce IntOp.andi x v reducesTo_S2x4096x512_S_d0_1_2 h_S_) main_v10 main_c_1
  let main_v12 : IVec S_ 1 := andi main_v5 main_v11
  let main_v13 : FVec F S32 .f32 := Host.absf main_arg2
  let main_cst_2 : FVec F S_ .f32 := constant S_ .f32 0x7F800000#32
  let main_v14 : FVec F S32 .f32 := broadcastInDim S32 ![] bcast_S_S32 main_cst_2
  let main_v15 : IVec S32 1 := cmpf .olt main_v13 main_v14
  let main_c_3 : IVec S_ 1 := constantI S_ 1 1#1
  let main_v16 : IVec S_ 1 := (fun x v => Host.reduce IntOp.andi x v reducesTo_S32_S_d0 h_S_) main_v15 main_c_3
  let main_v17 : IVec S_ 1 := andi main_v12 main_v16
  main_v17
-- ==== Kernel.lean ====
abbrev S2x4096x16384 : Shape := ⟨3, ![2, 4096, 16384]⟩
abbrev S2x32x4096x128 : Shape := ⟨4, ![2, 32, 4096, 128]⟩
abbrev S2x4096x4096 : Shape := ⟨3, ![2, 4096, 4096]⟩
abbrev S1x4096x256 : Shape := ⟨3, ![1, 4096, 256]⟩
abbrev S1x2x4096x128 : Shape := ⟨4, ![1, 2, 4096, 128]⟩
abbrev S2x8x144x512 : Shape := ⟨4, ![2, 8, 144, 512]⟩
abbrev S16x512 : Shape := ⟨2, ![16, 512]⟩
abbrev S1x512x128 : Shape := ⟨3, ![1, 512, 128]⟩
abbrev S512x128 : Shape := ⟨2, ![512, 128]⟩
abbrev S128x512 : Shape := ⟨2, ![128, 512]⟩
abbrev S1x1x128x512 : Shape := ⟨4, ![1, 1, 128, 512]⟩
abbrev S1x1x16x512 : Shape := ⟨4, ![1, 1, 16, 512]⟩
abbrev S512x512 : Shape := ⟨2, ![512, 512]⟩
abbrev S1x1x512x128 : Shape := ⟨4, ![1, 1, 512, 128]⟩
abbrev S512x256 : Shape := ⟨2, ![512, 256]⟩
abbrev S1x512 : Shape := ⟨2, ![1, 512]⟩
abbrev S144x512 : Shape := ⟨2, ![144, 512]⟩
abbrev S512 : Shape := ⟨1, ![512]⟩
abbrev S1x1x144x512 : Shape := ⟨4, ![1, 1, 144, 512]⟩

abbrev nBuf : Space → Nat
  | .hbm => 4
  | .vmem => 15
  | .smem => 0
  | _ => 0

abbrev bufTy : (tb : Table) → Fin (tcTables nBuf tb) → BufTy
  | .hbm, ⟨0, _⟩ => ⟨S2x4096x16384, .bf16⟩
  | .hbm, ⟨1, _⟩ => ⟨S2x32x4096x128, .bf16⟩
  | .hbm, ⟨2, _⟩ => ⟨S2x32x4096x128, .bf16⟩
  | .hbm, ⟨3, _⟩ => ⟨S2x4096x4096, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x2x4096x128, .bf16⟩
  | .local _ .vmem, ⟨9, _⟩ => ⟨S1x2x4096x128, .bf16⟩
  | .local _ .vmem, ⟨10, _⟩ => ⟨S1x2x4096x128, .bf16⟩
  | .local _ .vmem, ⟨11, _⟩ => ⟨S1x2x4096x128, .bf16⟩
  | .local _ .vmem, ⟨12, _⟩ => ⟨S1x4096x256, .bf16⟩
  | .local _ .vmem, ⟨13, _⟩ => ⟨S1x4096x256, .bf16⟩
  | .local _ .vmem, ⟨14, _⟩ => ⟨S2x8x144x512, .bf16⟩
  | _, _ => ⟨S2x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x4096x16384 : Shape := ⟨3, ![2, 4096, 16384]⟩
abbrev S2x32x4096x128 : Shape := ⟨4, ![2, 32, 4096, 128]⟩
abbrev S2x4096x4096 : Shape := ⟨3, ![2, 4096, 4096]⟩
abbrev S2x4096x32x128 : Shape := ⟨4, ![2, 4096, 32, 128]⟩
abbrev S2x32x4096x4096 : Shape := ⟨4, ![2, 32, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x32x4096 : Shape := ⟨3, ![2, 32, 4096]⟩
abbrev S2x32x4096x1 : Shape := ⟨4, ![2, 32, 4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x16384, .bf16⟩
  | .hbm, ⟨1, _⟩ => ⟨S2x32x4096x128, .bf16⟩
  | .hbm, ⟨2, _⟩ => ⟨S2x32x4096x128, .bf16⟩
  | .hbm, ⟨3, _⟩ => ⟨S2x4096x16384, .f32⟩
  | .hbm, ⟨4, _⟩ => ⟨S2x4096x4096, .f32⟩
  | .hbm, ⟨5, _⟩ => ⟨S2x4096x4096, .f32⟩
  | .hbm, ⟨6, _⟩ => ⟨S2x4096x4096, .f32⟩
  | .hbm, ⟨7, _⟩ => ⟨S2x4096x4096, .f32⟩
  | .hbm, ⟨8, _⟩ => ⟨S2x4096x32x128, .f32⟩
  | .hbm, ⟨9, _⟩ => ⟨S2x32x4096x128, .f32⟩
  | .hbm, ⟨10, _⟩ => ⟨S2x4096x32x128, .f32⟩
  | .hbm, ⟨11, _⟩ => ⟨S2x32x4096x128, .f32⟩
  | .hbm, ⟨12, _⟩ => ⟨S2x32x4096x4096, .f32⟩
  | .hbm, ⟨13, _⟩ => ⟨S2x32x4096x128, .f32⟩
  | .hbm, ⟨14, _⟩ => ⟨S2x32x4096x128, .f32⟩
  | .hbm, ⟨15, _⟩ => ⟨S2x32x4096x4096, .f32⟩
  | .hbm, ⟨16, _⟩ => ⟨S2x32x4096x4096, .f32⟩
  | .hbm, ⟨17, _⟩ => ⟨S_, .f32⟩
  | .hbm, ⟨18, _⟩ => ⟨S_, .f32⟩
  | .hbm, ⟨19, _⟩ => ⟨S2x32x4096x4096, .f32⟩
  | .hbm, ⟨20, _⟩ => ⟨S2x32x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S1x1x4096x4096, .i1⟩
  | .hbm, ⟨28, _⟩ => ⟨S_, .f32⟩
  | .hbm, ⟨29, _⟩ => ⟨S_, .f32⟩
  | .hbm, ⟨30, _⟩ => ⟨S2x32x4096x4096, .i1⟩
  | .hbm, ⟨31, _⟩ => ⟨S2x32x4096x4096, .f32⟩
  | .hbm, ⟨32, _⟩ => ⟨S2x32x4096x4096, .f32⟩
  | .hbm, ⟨33, _⟩ => ⟨S_, .f32⟩
  | .hbm, ⟨34, _⟩ => ⟨S2x32x4096, .f32⟩
  | .hbm, ⟨35, _⟩ => ⟨S_, .f32⟩
  | .hbm, ⟨36, _⟩ => ⟨S2x32x4096, .f32⟩
  | .hbm, ⟨37, _⟩ => ⟨S2x32x4096, .f32⟩
  | .hbm, ⟨38, _⟩ => ⟨S2x32x4096x1, .f32⟩
  | .hbm, ⟨39, _⟩ => ⟨S2x32x4096x4096, .f32⟩
  | .hbm, ⟨40, _⟩ => ⟨S2x32x4096x4096, .f32⟩
  | .hbm, ⟨41, _⟩ => ⟨S2x32x4096x4096, .f32⟩
  | .hbm, ⟨42, _⟩ => ⟨S_, .f32⟩
  | .hbm, ⟨43, _⟩ => ⟨S2x32x4096, .f32⟩
  | .hbm, ⟨44, _⟩ => ⟨S2x32x4096x1, .f32⟩
  | .hbm, ⟨45, _⟩ => ⟨S2x32x4096x4096, .f32⟩
  | .hbm, ⟨46, _⟩ => ⟨S2x32x4096x4096, .f32⟩
  | .hbm, ⟨47, _⟩ => ⟨S2x4096x32x128, .f32⟩
  | .hbm, ⟨48, _⟩ => ⟨S2x32x4096x128, .f32⟩
  | .hbm, ⟨49, _⟩ => ⟨S2x32x4096x128, .f32⟩
  | .hbm, ⟨50, _⟩ => ⟨S2x4096x32x128, .f32⟩
  | .hbm, ⟨51, _⟩ => ⟨S2x4096x4096, .f32⟩
  | .hbm, ⟨52, _⟩ => ⟨S2x4096x4096, .f32⟩
  | .hbm, ⟨53, _⟩ => ⟨S2x4096x4096, .f32⟩
  | .hbm, ⟨54, _⟩ => ⟨S_, .f32⟩
  | .hbm, ⟨55, _⟩ => ⟨S2x4096x4096, .f32⟩
  | .hbm, ⟨56, _⟩ => ⟨S2x4096x4096, .f32⟩
  | .hbm, ⟨57, _⟩ => ⟨S_, .f32⟩
  | .hbm, ⟨58, _⟩ => ⟨S2x4096x4096, .f32⟩
  | .hbm, ⟨59, _⟩ => ⟨S2x4096x4096, .f32⟩
  | .hbm, ⟨60, _⟩ => ⟨S2x4096x4096, .f32⟩
  | .hbm, ⟨61, _⟩ => ⟨S2x4096x4096, .f32⟩
  | .hbm, ⟨62, _⟩ => ⟨S2x4096x4096, .bf16⟩
  | _, _ => ⟨S2x4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel2.lean ====
abbrev S2x4096x4096 : Shape := ⟨3, ![2, 4096, 4096]⟩
abbrev S16384x4096 : Shape := ⟨2, ![16384, 4096]⟩
abbrev S8192x4096 : Shape := ⟨2, ![8192, 4096]⟩
abbrev S8192x16384 : Shape := ⟨2, ![8192, 16384]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x4096, .bf16⟩
  | .hbm, ⟨1, _⟩ => ⟨S16384x4096, .bf16⟩
  | .hbm, ⟨2, _⟩ => ⟨S8192x4096, .bf16⟩
  | .hbm, ⟨3, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
variable {F : FTy → Type} [FloatOps F] [Named F]
def κ : String → Option EReal := fun
  | "sm_scale" => some (((Real.sqrt 128)⁻¹ * (Real.log 2)⁻¹ : ℝ) : EReal)
  | _ => none
-- ==== Reference2Ideal.lean ====
abbrev S2x4096x4096 : Shape := ⟨3, ![2, 4096, 4096]⟩
abbrev S16384x4096 : Shape := ⟨2, ![16384, 4096]⟩
abbrev S8192x4096 : Shape := ⟨2, ![8192, 4096]⟩
abbrev S4096x16384 : Shape := ⟨2, ![4096, 16384]⟩
abbrev S8192x16384 : Shape := ⟨2, ![8192, 16384]⟩
abbrev S8192x12288 : Shape := ⟨2, ![8192, 12288]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S16384x4096, .bf16⟩
  | .hbm, ⟨2, _⟩ => ⟨S8192x4096, .bf16⟩
  | .hbm, ⟨3, _⟩ => ⟨S8192x4096, .f32⟩
  | .hbm, ⟨4, _⟩ => ⟨S16384x4096, .f32⟩
  | .hbm, ⟨5, _⟩ => ⟨S4096x16384, .f32⟩
  | .hbm, ⟨6, _⟩ => ⟨S8192x16384, .f32⟩
  | .hbm, ⟨7, _⟩ => ⟨S8192x4096, .f32⟩
  | .hbm, ⟨8, _⟩ => ⟨S8192x12288, .f32⟩
  | .hbm, ⟨9, _⟩ => ⟨S_, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x16384, .f32⟩
  | .hbm, ⟨18, _⟩ => ⟨S8192x16384, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel3.lean ====
abbrev S2x4096x4096 : Shape := ⟨3, ![2, 4096, 4096]⟩
abbrev S4096x8192 : Shape := ⟨2, ![4096, 8192]⟩
abbrev S4096x128 : Shape := ⟨2, ![4096, 128]⟩
abbrev S8192x4096 : Shape := ⟨2, ![8192, 4096]⟩
abbrev S_ : Shape := ⟨0, ![]⟩
abbrev S8192x8192 : Shape := ⟨2, ![8192, 8192]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S2x4096x4096, .bf16⟩
  | .hbm, ⟨1, _⟩ => ⟨S4096x8192, .f32⟩
  | .hbm, ⟨2, _⟩ => ⟨S4096x128, .f32⟩
  | .hbm, ⟨3, _⟩ => ⟨S4096x128, .f32⟩
  | .hbm, ⟨4, _⟩ => ⟨S8192x4096, .bf16⟩
  | .hbm, ⟨5, _⟩ => ⟨S4096x8192, .bf16⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x128, .f32⟩
  | .hbm, ⟨11, _⟩ => ⟨S4096x128, .f32⟩
  | .hbm, ⟨12, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c4_i32 : BitVec 32 := 4#32
  let v5 : BitVec 1 := Scalar.cmpi .slt arg1 c4_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x4096x4096 : Shape := ⟨3, ![2, 4096, 4096]⟩
abbrev S4096x8192 : Shape := ⟨2, ![4096, 8192]⟩
abbrev S4096x128 : Shape := ⟨2, ![4096, 128]⟩
abbrev S2x4096x8192 : Shape := ⟨3, ![2, 4096, 8192]⟩
abbrev S2x4096x32x128 : Shape := ⟨4, ![2, 4096, 32, 128]⟩
abbrev S2x4096x32x64 : Shape := ⟨4, ![2, 4096, 32, 64]⟩
abbrev S1x4096x1x128 : Shape := ⟨4, ![1, 4096, 1, 128]⟩
abbrev S_ : Shape := ⟨0, ![]⟩
abbrev S8192x8192 : Shape := ⟨2, ![8192, 8192]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4096x8192, .f32⟩
  | .hbm, ⟨2, _⟩ => ⟨S4096x128, .f32⟩
  | .hbm, ⟨3, _⟩ => ⟨S4096x128, .f32⟩
  | .hbm, ⟨4, _⟩ => ⟨S2x4096x4096, .f32⟩
  | .hbm, ⟨5, _⟩ => ⟨S2x4096x8192, .f32⟩
  | .hbm, ⟨6, _⟩ => ⟨S2x4096x4096, .f32⟩
  | .hbm, ⟨7, _⟩ => ⟨S2x4096x4096, .f32⟩
  | .hbm, ⟨8, _⟩ => ⟨S2x4096x32x128, .f32⟩
  | .hbm, ⟨9, _⟩ => ⟨S2x4096x32x64, .f32⟩
  | .hbm, ⟨10, _⟩ => ⟨S2x4096x32x64, .f32⟩
  | .hbm, ⟨11, _⟩ => ⟨S2x4096x32x128, .f32⟩
  | .hbm, ⟨12, _⟩ => ⟨S1x4096x1x128, .f32⟩
  | .hbm, ⟨13, _⟩ => ⟨S2x4096x32x128, .f32⟩
  | .hbm, ⟨14, _⟩ => ⟨S2x4096x32x128, .f32⟩
  | .hbm, ⟨15, _⟩ => ⟨S1x4096x1x128, .f32⟩
  | .hbm, ⟨16, _⟩ => ⟨S2x4096x32x128, .f32⟩
  | .hbm, ⟨17, _⟩ => ⟨S2x4096x32x128, .f32⟩
  | .hbm, ⟨18, _⟩ => ⟨S2x4096x32x128, .f32⟩
  | .hbm, ⟨19, _⟩ => ⟨S_, .f32⟩
  | .hbm, ⟨20, _⟩ => ⟨S2x4096x32x128, .f32⟩
  | .hbm, ⟨21, _⟩ => ⟨S2x4096x32x128, .f32⟩
  | .hbm, ⟨22, _⟩ => ⟨S2x4096x4096, .f32⟩
  | .hbm, ⟨23, _⟩ => ⟨S2x4096x8192, .f32⟩
  | .hbm, ⟨24, _⟩ => ⟨S8192x8192, .f32⟩
  | .hbm, ⟨25, _⟩ => ⟨S8192x8192, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S8192x4096 : Shape := ⟨2, ![8192, 4096]⟩
abbrev S4096x4096 : Shape := ⟨2, ![4096, 4096]⟩
abbrev S2x4096x4096 : Shape := ⟨3, ![2, 4096, 4096]⟩
abbrev S2x1x12288 : Shape := ⟨3, ![2, 1, 12288]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S2x4096x4096, .f32⟩
  | .hbm, ⟨3, _⟩ => ⟨S2x1x12288, .f32⟩
  | .hbm, ⟨4, _⟩ => ⟨S4096x4096, .bf16⟩
  | .hbm, ⟨5, _⟩ => ⟨S8192x4096, .f32⟩
  | .hbm, ⟨6, _⟩ => ⟨S8192x4096, .f32⟩
  | .hbm, ⟨7, _⟩ => ⟨S2x4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x4096 : Shape := ⟨2, ![8192, 4096]⟩
abbrev S4096x4096 : Shape := ⟨2, ![4096, 4096]⟩
abbrev S2x4096x4096 : Shape := ⟨3, ![2, 4096, 4096]⟩
abbrev S2x1x12288 : Shape := ⟨3, ![2, 1, 12288]⟩
abbrev S2x1x4096 : Shape := ⟨3, ![2, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S2x4096x4096, .f32⟩
  | .hbm, ⟨3, _⟩ => ⟨S2x1x12288, .f32⟩
  | .hbm, ⟨4, _⟩ => ⟨S2x1x4096, .f32⟩
  | .hbm, ⟨5, _⟩ => ⟨S8192x4096, .f32⟩
  | .hbm, ⟨6, _⟩ => ⟨S8192x4096, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S8192x4096 : Shape := ⟨2, ![8192, 4096]⟩
abbrev S4096x4096 : Shape := ⟨2, ![4096, 4096]⟩
abbrev S2x4096x4096 : Shape := ⟨3, ![2, 4096, 4096]⟩
abbrev S2x1x12288 : Shape := ⟨3, ![2, 1, 12288]⟩
abbrev S4096 : Shape := ⟨1, ![4096]⟩
abbrev S1x4096 : Shape := ⟨2, ![1, 4096]⟩
abbrev S512x4096 : Shape := ⟨2, ![512, 4096]⟩
abbrev S4096x512 : Shape := ⟨2, ![4096, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S2x4096x4096, .f32⟩
  | .hbm, ⟨3, _⟩ => ⟨S2x1x12288, .f32⟩
  | .hbm, ⟨4, _⟩ => ⟨S4096, .f32⟩
  | .hbm, ⟨5, _⟩ => ⟨S4096x4096, .bf16⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S2x4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg1 : BitVec 32 := BitVec.ofNat 32 (i 1).val
  let c2_i32 : BitVec 32 := 2#32
  let v17 : BitVec 1 := Scalar.cmpi .eq arg1 c2_i32
  let v18 : BitVec 32 := Scalar.extui v17
  let c0_i32_10 : BitVec 32 := 0#32
  let v19 : BitVec 1 := Scalar.cmpi .ne v18 c0_i32_10
  v19

def k0_cond4 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_11 : BitVec 32 := 0#32
  let v22 : BitVec 1 := Scalar.cmpi .ne v21 c0_i32_11
  v22

def k0_cond5 (i : grid0.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_12 : BitVec 32 := 0#32
  let v25 : BitVec 1 := Scalar.cmpi .ne v24 c0_i32_12
  v25

def k0_cond6 (i : grid0.Coords) : BitVec 1 :=
  let arg1 : BitVec 32 := BitVec.ofNat 32 (i 1).val
  let c5_i32 : BitVec 32 := 5#32
  let v26 : BitVec 1 := Scalar.cmpi .eq arg1 c5_i32
  let v27 : BitVec 32 := Scalar.extui v26
  let c0_i32_13 : BitVec 32 := 0#32
  let v28 : BitVec 1 := Scalar.cmpi .ne v27 c0_i32_13
  v28

def k0_cond7 (i : grid0.Coords) : BitVec 1 :=
  let arg1 : BitVec 32 := BitVec.ofNat 32 (i 1).val
  let c6_i32 : BitVec 32 := 6#32
  let v29 : BitVec 1 := Scalar.cmpi .eq arg1 c6_i32
  let v30 : BitVec 32 := Scalar.extui v29
  let c0_i32_14 : BitVec 32 := 0#32
  let v31 : BitVec 1 := Scalar.cmpi .ne v30 c0_i32_14
  v31

def k0_cond8 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_15 : BitVec 32 := 0#32
  let v34 : BitVec 1 := Scalar.cmpi .ne v33 c0_i32_15
  v34

def k0_cond9 (i : grid0.Coords) : BitVec 1 :=
  let arg1 : BitVec 32 := BitVec.ofNat 32 (i 1).val
  let c7_i32_16 : BitVec 32 := 7#32
  let v35 : BitVec 1 := Scalar.cmpi .eq arg1 c7_i32_16
  let v36 : BitVec 32 := Scalar.extui v35
  let c0_i32_17 : BitVec 32 := 0#32
  let v37 : BitVec 1 := Scalar.cmpi .ne v36 c0_i32_17
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S8192x4096 : Shape := ⟨2, ![8192, 4096]⟩
abbrev S4096x4096 : Shape := ⟨2, ![4096, 4096]⟩
abbrev S2x4096x4096 : Shape := ⟨3, ![2, 4096, 4096]⟩
abbrev S2x1x12288 : Shape := ⟨3, ![2, 1, 12288]⟩
abbrev S4096 : Shape := ⟨1, ![4096]⟩
abbrev S2x1x4096 : Shape := ⟨3, ![2, 1, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S2x4096x4096, .f32⟩
  | .hbm, ⟨3, _⟩ => ⟨S2x1x12288, .f32⟩
  | .hbm, ⟨4, _⟩ => ⟨S4096, .f32⟩
  | .hbm, ⟨5, _⟩ => ⟨S2x1x4096, .f32⟩
  | .hbm, ⟨6, _⟩ => ⟨S8192x4096, .f32⟩
  | .hbm, ⟨7, _⟩ => ⟨S8192x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S2x4096x4096, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x4096, .f32⟩
  | .hbm, ⟨24, _⟩ => ⟨S2x4096x4096, .f32⟩
  | .hbm, ⟨25, _⟩ => ⟨S1x1x4096, .f32⟩
  | .hbm, ⟨26, _⟩ => ⟨S2x4096x4096, .f32⟩
  | .hbm, ⟨27, _⟩ => ⟨S2x4096x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S2x4096x4096 : Shape := ⟨3, ![2, 4096, 4096]⟩
abbrev S4096x1024 : Shape := ⟨2, ![4096, 1024]⟩
abbrev S4096x128 : Shape := ⟨2, ![4096, 128]⟩
abbrev S8192x4096 : Shape := ⟨2, ![8192, 4096]⟩
abbrev S8192x1024 : Shape := ⟨2, ![8192, 1024]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x4096x4096, .bf16⟩
  | .hbm, ⟨1, _⟩ => ⟨S4096x1024, .f32⟩
  | .hbm, ⟨2, _⟩ => ⟨S4096x128, .f32⟩
  | .hbm, ⟨3, _⟩ => ⟨S4096x128, .f32⟩
  | .hbm, ⟨4, _⟩ => ⟨S8192x4096, .bf16⟩
  | .hbm, ⟨5, _⟩ => ⟨S4096x1024, .bf16⟩
  | .hbm, ⟨6, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c1_i32 : BitVec 32 := 1#32
  let v5 : BitVec 1 := Scalar.cmpi .slt arg1 c1_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c1_i32_3 : BitVec 32 := 1#32
  let v8 : BitVec 1 := Scalar.cmpi .sge arg1 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2x4096x4096 : Shape := ⟨3, ![2, 4096, 4096]⟩
abbrev S4096x1024 : Shape := ⟨2, ![4096, 1024]⟩
abbrev S4096x128 : Shape := ⟨2, ![4096, 128]⟩
abbrev S2x4096x1024 : Shape := ⟨3, ![2, 4096, 1024]⟩
abbrev S2x4096x512 : Shape := ⟨3, ![2, 4096, 512]⟩
abbrev S2x4096x4x128 : Shape := ⟨4, ![2, 4096, 4, 128]⟩
abbrev S2x4096x4x64 : Shape := ⟨4, ![2, 4096, 4, 64]⟩
abbrev S1x4096x1x128 : Shape := ⟨4, ![1, 4096, 1, 128]⟩
abbrev S8192x1024 : Shape := ⟨2, ![8192, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4096x1024, .f32⟩
  | .hbm, ⟨2, _⟩ => ⟨S4096x128, .f32⟩
  | .hbm, ⟨3, _⟩ => ⟨S4096x128, .f32⟩
  | .hbm, ⟨4, _⟩ => ⟨S2x4096x4096, .f32⟩
  | .hbm, ⟨5, _⟩ => ⟨S2x4096x1024, .f32⟩
  | .hbm, ⟨6, _⟩ => ⟨S2x4096x512, .f32⟩
  | .hbm, ⟨7, _⟩ => ⟨S2x4096x512, .f32⟩
  | .hbm, ⟨8, _⟩ => ⟨S2x4096x4x128, .f32⟩
  | .hbm, ⟨9, _⟩ => ⟨S2x4096x4x64, .f32⟩
  | .hbm, ⟨10, _⟩ => ⟨S2x4096x4x64, .f32⟩
  | .hbm, ⟨11, _⟩ => ⟨S2x4096x4x128, .f32⟩
  | .hbm, ⟨12, _⟩ => ⟨S1x4096x1x128, .f32⟩
  | .hbm, ⟨13, _⟩ => ⟨S2x4096x4x128, .f32⟩
  | .hbm, ⟨14, _⟩ => ⟨S2x4096x4x128, .f32⟩
  | .hbm, ⟨15, _⟩ => ⟨S1x4096x1x128, .f32⟩
  | .hbm, ⟨16, _⟩ => ⟨S2x4096x4x128, .f32⟩
  | .hbm, ⟨17, _⟩ => ⟨S2x4096x4x128, .f32⟩
  | .hbm, ⟨18, _⟩ => ⟨S2x4096x4x128, .f32⟩
  | .hbm, ⟨19, _⟩ => ⟨S2x4096x512, .f32⟩
  | .hbm, ⟨20, _⟩ => ⟨S2x4096x1024, .f32⟩
  | .hbm, ⟨21, _⟩ => ⟨S8192x1024, .f32⟩
  | .hbm, ⟨22, _⟩ => ⟨S8192x1024, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S2x4096x8192 : Shape := ⟨3, ![2, 4096, 8192]⟩
abbrev S2x4096x1024 : Shape := ⟨3, ![2, 4096, 1024]⟩
abbrev S32 : Shape := ⟨1, ![32]⟩
abbrev S4x1x8x1 : Shape := ⟨4, ![4, 1, 8, 1]⟩
abbrev S4x1x8x128 : Shape := ⟨4, ![4, 1, 8, 128]⟩
abbrev S4x1x1024 : Shape := ⟨3, ![4, 1, 1024]⟩
abbrev S2x4096x4096 : Shape := ⟨3, ![2, 4096, 4096]⟩
abbrev S1x512x1024 : Shape := ⟨3, ![1, 512, 1024]⟩
abbrev S1x4096x128 : Shape := ⟨3, ![1, 4096, 128]⟩
abbrev S1x1x1024 : Shape := ⟨3, ![1, 1, 1024]⟩
abbrev S256x128 : Shape := ⟨2, ![256, 128]⟩
abbrev S1x1024 : Shape := ⟨2, ![1, 1024]⟩
abbrev S16x256 : Shape := ⟨2, ![16, 256]⟩
abbrev S256x1024 : Shape := ⟨2, ![256, 1024]⟩
abbrev S1x256x128 : Shape := ⟨3, ![1, 256, 128]⟩
abbrev S128x256 : Shape := ⟨2, ![128, 256]⟩
abbrev S144x256 : Shape := ⟨2, ![144, 256]⟩
abbrev S1x128x1024 : Shape := ⟨3, ![1, 128, 1024]⟩
abbrev S128x1024 : Shape := ⟨2, ![128, 1024]⟩
abbrev S128x128 : Shape := ⟨2, ![128, 128]⟩
abbrev S1024x128 : Shape := ⟨2, ![1024, 128]⟩
abbrev S1024 : Shape := ⟨1, ![1024]⟩
abbrev S144x1024 : Shape := ⟨2, ![144, 1024]⟩
abbrev S1x128x128 : Shape := ⟨3, ![1, 128, 128]⟩

abbrev nBuf : Space → Nat
  | .hbm => 7
  | .vmem => 12
  | .smem => 0
  | _ => 0

abbrev bufTy : (tb : Table) → Fin (tcTables nBuf tb) → BufTy
  | .hbm, ⟨0, _⟩ => ⟨S2x4096x8192, .bf16⟩
  | .hbm, ⟨1, _⟩ => ⟨S2x4096x1024, .bf16⟩
  | .hbm, ⟨2, _⟩ => ⟨S32, .f32⟩
  | .hbm, ⟨3, _⟩ => ⟨S4x1x8x1, .f32⟩
  | .hbm, ⟨4, _⟩ => ⟨S4x1x8x128, .f32⟩
  | .hbm, ⟨5, _⟩ => ⟨S4x1x1024, .f32⟩
  | .hbm, ⟨6, _⟩ => ⟨S2x4096x4096, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x512x1024, .bf16⟩
  | .local _ .vmem, ⟨11, _⟩ => ⟨S1x512x1024, .bf16⟩
  | _, _ => ⟨S2x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v8 : BitVec 32 := Scalar.addi v0 c0_i32
  let c128_i32 : BitVec 32 := 128#32
  let v9 : BitVec 32 := Scalar.subi v8 c128_i32
  let c0_i32_3 : BitVec 32 := 0#32
  let v10 : BitVec 32 := Scalar.maxsi v9 c0_i32_3
  v10
def k0_off1 (i : grid0.Coords) (c0_i32 : BitVec 32) : Fin 3 → Nat :=
  let c0_8 : Index := 0#32
  let arg2 : BitVec 32 := BitVec.ofNat 32 (i 2).val
  let c512_i32 : BitVec 32 := 512#32
  let v0 : BitVec 32 := Scalar.muli arg2 c512_i32
  let v8 : BitVec 32 := Scalar.addi v0 c0_i32
  let c128_i32 : BitVec 32 := 128#32
  let v9 : BitVec 32 := Scalar.subi v8 c128_i32
  let c0_i32_3 : BitVec 32 := 0#32
  let v10 : BitVec 32 := Scalar.maxsi v9 c0_i32_3
  let v11 : BitVec 32 := v10
  let v25 : Index := Scalar.indexCast v11
  let c0_9 : Index := 0#32
  ![0, v25.toNat, 0]
def k0_mult2 (i : grid0.Coords) : BitVec 32 :=
  let arg2 : BitVec 32 := BitVec.ofNat 32 (i 2).val
  let c512_i32 : BitVec 32 := 512#32
  let v0 : BitVec 32 := Scalar.muli arg2 c512_i32
  let c128_i32_60 : BitVec 32 := 128#32
  let v161 : BitVec 32 := Scalar.addi v0 c128_i32_60
  let c128_i32_61 : BitVec 32 := 128#32
  let v162 : BitVec 32 := Scalar.subi v161 c128_i32_61
  let c0_i32_62 : BitVec 32 := 0#32
  let v163 : BitVec 32 := Scalar.maxsi v162 c0_i32_62
  v163
def k0_mult3 (i : grid0.Coords) : BitVec 32 :=
  let arg2 : BitVec 32 := BitVec.ofNat 32 (i 2).val
  let c512_i32 : BitVec 32 := 512#32
  let v0 : BitVec 32 := Scalar.muli arg2 c512_i32
  let c256_i32 : BitVec 32 := 256#32
  let v314 : BitVec 32 := Scalar.addi v0 c256_i32
  let c128_i32_126 : BitVec 32 := 128#32
  let v315 : BitVec 32 := Scalar.subi v314 c128_i32_126
  let c0_i32_127 : BitVec 32 := 0#32
  let v316 : BitVec 32 := Scalar.maxsi v315 c0_i32_127
  v316
def k0_mult4 (i : grid0.Coords) : BitVec 32 :=
  let arg2 : BitVec 32 := BitVec.ofNat 32 (i 2).val
  let c512_i32 : BitVec 32 := 512#32
  let v0 : BitVec 32 := Scalar.muli arg2 c512_i32
  let c384_i32 : BitVec 32 := 384#32
  let v467 : BitVec 32 := Scalar.addi v0 c384_i32
  let c128_i32_191 : BitVec 32 := 128#32
  let v468 : BitVec 32 := Scalar.subi v467 c128_i32_191
  let c0_i32_192 : BitVec 32 := 0#32
  let v469 : BitVec 32 := Scalar.maxsi v468 c0_i32_192
  v469
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel7Ideal.lean ====
variable {F : FTy → Type} [FloatOps F] [Named F]
def κ : String → Option EReal := fun
  | "log2e" => some (((Real.log 2)⁻¹ : ℝ) : EReal)
  | _ => none
-- ==== Reference7Ideal.lean ====
abbrev S2x4096x8192 : Shape := ⟨3, ![2, 4096, 8192]⟩
abbrev S2x4096x1024 : Shape := ⟨3, ![2, 4096, 1024]⟩
abbrev S32 : Shape := ⟨1, ![32]⟩
abbrev S2x4096x4096 : Shape := ⟨3, ![2, 4096, 4096]⟩
abbrev S2x4096x512 : Shape := ⟨3, ![2, 4096, 512]⟩
abbrev S2x4096x4x8x128 : Shape := ⟨5, ![2, 4096, 4, 8, 128]⟩
abbrev S2x4096x4x128 : Shape := ⟨4, ![2, 4096, 4, 128]⟩
abbrev S2x4x4096x4096x8 : Shape := ⟨5, ![2, 4, 4096, 4096, 8]⟩
abbrev S2x4x8x4096x4096 : Shape := ⟨5, ![2, 4, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x8x1x1 : Shape := ⟨4, ![4, 8, 1, 1]⟩
abbrev S2x4x8x4096x1 : Shape := ⟨5, ![2, 4, 8, 4096, 1]⟩
abbrev S2x4x8x4096x4097 : Shape := ⟨5, ![2, 4, 8, 4096, 4097]⟩
abbrev S2x4x8x4096 : Shape := ⟨4, ![2, 4, 8, 4096]⟩
abbrev S2x4x128x8x4096 : Shape := ⟨5, ![2, 4, 128, 8, 4096]⟩

abbrev nBuf : Space → Nat
  | .hbm => 69
  | .vmem => 0
  | .smem => 0
  | _ => 0

abbrev bufTy : (tb : Table) → Fin (tcTables nBuf tb) → BufTy
  | .hbm, ⟨0, _⟩ => ⟨S2x4096x8192, .bf16⟩
  | .hbm, ⟨1, _⟩ => ⟨S2x4096x1024, .bf16⟩
  | .hbm, ⟨2, _⟩ => ⟨S32, .f32⟩
  | .hbm, ⟨3, _⟩ => ⟨S2x4096x8192, .f32⟩
  | .hbm, ⟨4, _⟩ => ⟨S2x4096x4096, .f32⟩
  | .hbm, ⟨5, _⟩ => ⟨S2x4096x4096, .f32⟩
  | .hbm, ⟨6, _⟩ => ⟨S2x4096x1024, .f32⟩
  | .hbm, ⟨7, _⟩ => ⟨S2x4096x512, .f32⟩
  | .hbm, ⟨8, _⟩ => ⟨S2x4096x512, .f32⟩
  | .hbm, ⟨9, _⟩ => ⟨S2x4096x4x8x128, .f32⟩
  | .hbm, ⟨10, _⟩ => ⟨S2x4096x4x128, .f32⟩
  | .hbm, ⟨11, _⟩ => ⟨S2x4096x4x128, .f32⟩
  | .hbm, ⟨12, _⟩ => ⟨S2x4x4096x4096x8, .f32⟩
  | .hbm, ⟨13, _⟩ => ⟨S2x4x8x4096x4096, .f32⟩
  | .hbm, ⟨14, _⟩ => ⟨S_, .f32⟩
  | .hbm, ⟨15, _⟩ => ⟨S_, .f32⟩
  | .hbm, ⟨16, _⟩ => ⟨S2x4x8x4096x4096, .f32⟩
  | .hbm, ⟨17, _⟩ => ⟨S2x4x8x4096x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i1⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S2x4x8x4096x4096, .i1⟩
  | .hbm, ⟨35, _⟩ => ⟨S2x4x8x4096x4096, .f32⟩
  | .hbm, ⟨36, _⟩ => ⟨S2x4x8x4096x4096, .f32⟩
  | .hbm, ⟨37, _⟩ => ⟨S4x8x1x1, .f32⟩
  | .hbm, ⟨38, _⟩ => ⟨S2x4x8x4096x1, .f32⟩
  | .hbm, ⟨39, _⟩ => ⟨S2x4x8x4096x4097, .f32⟩
  | .hbm, ⟨40, _⟩ => ⟨S_, .f32⟩
  | .hbm, ⟨41, _⟩ => ⟨S2x4x8x4096, .f32⟩
  | .hbm, ⟨42, _⟩ => ⟨S_, .f32⟩
  | .hbm, ⟨43, _⟩ => ⟨S2x4x8x4096, .f32⟩
  | .hbm, ⟨44, _⟩ => ⟨S2x4x8x4096, .f32⟩
  | .hbm, ⟨45, _⟩ => ⟨S2x4x8x4096x1, .f32⟩
  | .hbm, ⟨46, _⟩ => ⟨S2x4x8x4096x4097, .f32⟩
  | .hbm, ⟨47, _⟩ => ⟨S2x4x8x4096x4097, .f32⟩
  | .hbm, ⟨48, _⟩ => ⟨S2x4x8x4096x4097, .f32⟩
  | .hbm, ⟨49, _⟩ => ⟨S_, .f32⟩
  | .hbm, ⟨50, _⟩ => ⟨S2x4x8x4096, .f32⟩
  | .hbm, ⟨51, _⟩ => ⟨S2x4x8x4096x1, .f32⟩
  | .hbm, ⟨52, _⟩ => ⟨S2x4x8x4096x4097, .f32⟩
  | .hbm, ⟨53, _⟩ => ⟨S2x4x8x4096x4097, .f32⟩
  | .hbm, ⟨54, _⟩ => ⟨S2x4x8x4096x4096, .f32⟩
  | .hbm, ⟨55, _⟩ => ⟨S2x4x128x8x4096, .f32⟩
  | .hbm, ⟨56, _⟩ => ⟨S2x4096x4x8x128, .f32⟩
  | .hbm, ⟨57, _⟩ => ⟨S2x4096x4096, .f32⟩
  | .hbm, ⟨58, _⟩ => ⟨S2x4096x4096, .f32⟩
  | .hbm, ⟨59, _⟩ => ⟨S2x4096x4096, .f32⟩
  | .hbm, ⟨60, _⟩ => ⟨S_, .f32⟩
  | .hbm, ⟨61, _⟩ => ⟨S2x4096x4096, .f32⟩
  | .hbm, ⟨62, _⟩ => ⟨S2x4096x4096, .f32⟩
  | .hbm, ⟨63, _⟩ => ⟨S_, .f32⟩
  | .hbm, ⟨64, _⟩ => ⟨S2x4096x4096, .f32⟩
  | .hbm, ⟨65, _⟩ => ⟨S2x4096x4096, .f32⟩
  | .hbm, ⟨66, _⟩ => ⟨S2x4096x4096, .f32⟩
  | .hbm, ⟨67, _⟩ => ⟨S2x4096x4096, .f32⟩
  | .hbm, ⟨68, _⟩ => ⟨S2x4096x4096, .bf16⟩
  | _, _ => ⟨S2x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Proof.FoxTile.lean ====
/-
  The attention's tile, as the kernel computes it: one 512-row tile of queries of one head against the key tiles up to
  its own, by the online softmax with a transposed accumulator (128 rows of weighted values over 16 rows of weight
  sums), the last tile under the causal mask; and the sixteen stores of a grid point, each one such tile.
-/
module

public import proofs.«01_k».proof.Proof.Gen.KernelIdeal.Value
public import Idealize.ShloMosaic.Lib.Tactic
public import Idealize.ShloMosaic.Lib.ValueIdx

@[expose] public section

set_option maxRecDepth 65536

noncomputable section

namespace Cert.KernelIdeal.Fox

open Cert.KernelIdeal Cert.KernelIdeal.Gen Idealize.ShloMosaic Idealize.ShloMosaic.TcCoe Idealize.SL.Sem

variable {F : FTy → Type} [FloatOps F]

/-! ## One step and one tile -/

/-- A key or query tile beside its 128 extra columns: 512 rows of 256. -/
def joined (a : FVec F S1x512x128 .bf16) (b : FVec F S1x1x512x128 .bf16) : FVec F S512x256 .bf16 :=
  concatenate S512x256 1 [⟨S512x128, shapeCast S512x128 a shapeCasts_S1x512x128_S512x128⟩,
    ⟨S512x128, shapeCast S512x128 b shapeCasts_S1x1x512x128_S512x128⟩] concatenates_S512x128_S512x128_S512x256_d1

/-- The scores of one key tile against one query tile, keys down and queries across. -/
def score (k : FVec F S1x512x128 .bf16) (ak : FVec F S1x1x512x128 .bf16) (q : FVec F S1x512x128 .bf16)
    (aq : FVec F S1x1x512x128 .bf16) : FVec F S512x512 .f32 :=
  matmul dot_S512x256_S512x256_S512x512_1_1_0_0_n_n none (joined k ak) (joined q aq) (constant S512x512 .f32 0x00000000#32)

/-- The scores under the causal mask: minus infinity where the key comes after the query. -/
def masked (s : FVec F S512x512 .f32) : FVec F S512x512 .f32 :=
  select (cmpi .sle (iota .tc S512x512 32 [0] iota_S512x512_d0_w32) (iota .tc S512x512 32 [1] iota_S512x512_d1_w32)) s
    (broadcast S512x512 (Scalar.ofBits .f32 0xFF800000#32))

/-- The running maximum of each query after one more key tile. -/
def stepM (m : FVec F S1x512 .f32) (s : FVec F S512x512 .f32) : FVec F S1x512 .f32 :=
  maximumf m (shapeCast S1x512 (multiReduction .maximumf [0] S512 s 0xFF800000#32 reduces_S512x512_S512 (.inl rfl) rfl)
    shapeCasts_S512_S1x512)

/-- The accumulator after one more key tile, rescaled to the new maximum. -/
def stepA (m : FVec F S1x512 .f32) (acc : FVec F S144x512 .f32) (s : FVec F S512x512 .f32)
    (vt : FVec F S1x1x144x512 .bf16) : FVec F S144x512 .f32 :=
  addf (mulf (broadcastTo S144x512 (exp2 (subf m (stepM m s))) broadcasts_S1x512_S144x512) acc)
    (matmul dot_S144x512_S512x512_S144x512_1_0_0_1_n_n none (shapeCast S144x512 vt shapeCasts_S1x1x144x512_S144x512)
      (truncf .bf16 (exp2 (subf s (broadcastTo S512x512 (stepM m s) broadcasts_S1x512_S512x512))) bitsLt_bf16_f32)
      (constant S144x512 .f32 0x00000000#32))

/-- The running maximum before key tile `n`, all tiles before it unmasked. -/
def runM (s : ℕ → FVec F S512x512 .f32) : ℕ → FVec F S1x512 .f32
  | 0 => broadcast S1x512 (Scalar.ofBits .f32 0xFF800000#32)
  | n + 1 => stepM (runM s n) (s n)

/-- The accumulator before key tile `n`. -/
def runA (s : ℕ → FVec F S512x512 .f32) (vt : ℕ → FVec F S1x1x144x512 .bf16) : ℕ → FVec F S144x512 .f32
  | 0 => broadcast S144x512 (Scalar.ofBits .f32 0x00000000#32)
  | n + 1 => stepA (runM s n) (runA s vt n) (s n) (vt n)

/-- What a tile's last accumulator leaves: the weighted values over the weight sums, turned, times the gate. -/
def gated (acc : FVec F S144x512 .f32) (z : FVec F S1x512x128 .bf16) : FVec F S1x512x128 .bf16 :=
  let z' := extf .f32 (shapeCast S512x128 z shapeCasts_S1x512x128_S512x128) bitsLt_bf16_f32
  shapeCast S1x512x128 (truncf .bf16 (mulf
    (transpose S512x128 [1, 0] (mulf (extractStridedSlice S128x512 ![0, 0] acc slices_S144x512_o0_0_S128x512)
      (broadcastTo S128x512 (divf (broadcast S1x512 (Scalar.ofBits .f32 0x3F800000#32))
        (extractStridedSlice S1x512 ![128, 0] acc slices_S144x512_o128_0_S1x512)) broadcasts_S1x512_S128x512))
      transposes_S128x512_p1_0_S512x128)
    (mulf z' (logistic z'))) bitsLt_bf16_f32) shapeCasts_S512x128_S1x512x128

/-- The output tile `i` of one head, from its query, key, gate, extra-column and transposed-value tiles. -/
def outTile (q k z : ℕ → FVec F S1x512x128 .bf16) (aq ak : ℕ → FVec F S1x1x512x128 .bf16)
    (vt : ℕ → FVec F S1x1x144x512 .bf16) (i : ℕ) : FVec F S1x512x128 .bf16 :=
  gated (stepA (runM (fun j => score (k j) (ak j) (q i) (aq i)) i) (runA (fun j => score (k j) (ak j) (q i) (aq i)) vt i)
    (masked (score (k i) (ak i) (q i) (aq i))) (vt i)) (z i)

/-! ## The tiles a grid point loads -/

/-- Rows `512 i` on and columns `128 g` on, of a 4096 by 256 block. -/
abbrev rectX (g i : ℕ) : Rect S1x4096x256 :=
  Rect.unit ![0, 512 * (i % 8), 128 * (g % 2)] S1x512x128.size (by
    intro a
    match a with
    | ⟨0, _⟩ => show 0 + 1 ≤ 1; omega
    | ⟨1, _⟩ => show 512 * (i % 8) + 512 ≤ 4096; omega
    | ⟨2, _⟩ => show 128 * (g % 2) + 128 ≤ 256; omega)

/-- Head `g`'s rows `512 i` on, of a pair of heads' 4096 by 128 extra columns. -/
abbrev rectA (g i : ℕ) : Rect S1x2x4096x128 :=
  Rect.unit ![0, g % 2, 512 * (i % 8), 0] S1x1x512x128.size (by
    intro a
    match a with
    | ⟨0, _⟩ => show 0 + 1 ≤ 1; omega
    | ⟨1, _⟩ => show g % 2 + 1 ≤ 2; omega
    | ⟨2, _⟩ => show 512 * (i % 8) + 512 ≤ 4096; omega
    | ⟨3, _⟩ => show 0 + 128 ≤ 128; omega)

/-- Head `g`'s transposed-value tile `j`, of the scratch buffer. -/
abbrev rectV (g j : ℕ) : Rect S2x8x144x512 :=
  Rect.unit ![g % 2, j % 8, 0, 0] S1x1x144x512.size (by
    intro a
    match a with
    | ⟨0, _⟩ => show g % 2 + 1 ≤ 2; omega
    | ⟨1, _⟩ => show j % 8 + 1 ≤ 8; omega
    | ⟨2, _⟩ => show 0 + 144 ≤ 144; omega
    | ⟨3, _⟩ => show 0 + 512 ≤ 512; omega)

section Point

variable (c : Dev nD) (i : grid0.Coords)
  (a2 : Memref sig .tc .vmem S1x4096x256 .bf16) (h2 : a2.IsWhole) (a3 : Memref sig .tc .vmem S1x4096x256 .bf16) (h3 : a3.IsWhole)
  (a4 : Memref sig .tc .vmem S1x4096x256 .bf16) (h4 : a4.IsWhole) (a5 : Memref sig .tc .vmem S1x4096x256 .bf16) (h5 : a5.IsWhole)
  (a6 : Memref sig .tc .vmem S1x2x4096x128 .bf16) (h6 : a6.IsWhole) (a7 : Memref sig .tc .vmem S1x2x4096x128 .bf16) (h7 : a7.IsWhole)
  (a8 : Memref sig .tc .vmem S1x4096x256 .bf16) (h8 : a8.IsWhole) (a9 : Memref sig .tc .vmem S2x8x144x512 .bf16) (h9 : a9.IsWhole)
  (x0 x1 x2 x3 : Vec F S1x4096x256 .bf16) (x4 x5 : Vec F S1x2x4096x128 .bf16)

/-- The tile of rows `i` and head `g` as loaded from a block held in a staging buffer. -/
abbrev loadX (a : Memref sig .tc .vmem S1x4096x256 .bf16) (h : a.IsWhole) (x : Vec F S1x4096x256 .bf16) (g i : ℕ) :
    FVec F S1x512x128 .bf16 := View.readAt (Elt F) a.view (rectX g i).toLoadRect (h.unread x)

/-- The same of the extra columns. -/
abbrev loadA (a : Memref sig .tc .vmem S1x2x4096x128 .bf16) (h : a.IsWhole) (x : Vec F S1x2x4096x128 .bf16) (g i : ℕ) :
    FVec F S1x1x512x128 .bf16 := View.readAt (Elt F) a.view (rectA g i).toLoadRect (h.unread x)

/-- The transposed-value tile as loaded from the scratch buffer after the point's stores into it. -/
abbrev loadV (g j : ℕ) : FVec F S1x1x144x512 .bf16 :=
  a9.view.readCov (kernelRun0_A.sl.HS0_32 c a4 h4 x2) (rectV g j).toLoadRect

/-- The output tile `i` of head `g` of the point's pair. -/
abbrev pointTile (g i : ℕ) : FVec F S1x512x128 .bf16 :=
  outTile (loadX a2 h2 x0 g) (loadX a3 h3 x1 g) (loadX a5 h5 x3 g) (loadA a6 h6 x4 g) (loadA a7 h7 x5 g)
    (loadV c a4 h4 a9 x2 g) i

/-- The rows of the scratch buffer's tile that the transposed values take. -/
abbrev rectT (g j : ℕ) : Rect S2x8x144x512 :=
  Rect.unit ![g % 2, j % 8, 0, 0] S1x1x128x512.size (by
    intro a
    match a with
    | ⟨0, _⟩ => show g % 2 + 1 ≤ 2; omega
    | ⟨1, _⟩ => show j % 8 + 1 ≤ 8; omega
    | ⟨2, _⟩ => show 0 + 128 ≤ 144; omega
    | ⟨3, _⟩ => show 0 + 512 ≤ 512; omega)

/-- The rows of the scratch buffer's tile that the ones take. -/
abbrev rectO (g j : ℕ) : Rect S2x8x144x512 :=
  Rect.unit ![g % 2, j % 8, 128, 0] S1x1x16x512.size (by
    intro a
    match a with
    | ⟨0, _⟩ => show g % 2 + 1 ≤ 2; omega
    | ⟨1, _⟩ => show j % 8 + 1 ≤ 8; omega
    | ⟨2, _⟩ => show 128 + 16 ≤ 144; omega
    | ⟨3, _⟩ => show 0 + 512 ≤ 512; omega)

/-- A value tile turned. -/
def turned (t : FVec F S1x512x128 .bf16) : FVec F S1x1x128x512 .bf16 :=
  shapeCast S1x1x128x512 (truncf .bf16 (transpose S128x512 [1, 0]
    (extf .f32 (shapeCast S512x128 t shapeCasts_S1x512x128_S512x128) bitsLt_bf16_f32) transposes_S512x128_p1_0_S128x512) bitsLt_bf16_f32)
    shapeCasts_S128x512_S1x1x128x512

/-- The rows of ones. -/
def onesTile : FVec F S1x1x16x512 .bf16 :=
  shapeCast S1x1x16x512 (broadcast S16x512 (Scalar.ofBits .bf16 0x3F80#16)) shapeCasts_S16x512_S1x1x16x512

/-- The stores of a grid point into the scratch buffer, the last first. -/
theorem scratch_pieces : kernelRun0_A.sl.HS0_32 c a4 h4 x2
    = [1, 0].flatMap fun g => [7, 6, 5, 4, 3, 2, 1, 0].flatMap fun j =>
        [⟨rectO g j, onesTile⟩, ⟨rectT g j, turned (loadX a4 h4 x2 g j)⟩] := by
  rfl

/-- The stores of a grid point into its output block, the last first: sixteen tiles, each an attention tile. -/
theorem pieces : (kernelRun0_A c i a2 h2 a3 h3 a4 h4 a5 h5 a6 h6 a7 h7 a8 h8 a9 h9 x0 x1 x2 x3 x4 x5).1
    = [7, 6, 5, 4, 3, 2, 1, 0].flatMap fun i => [1, 0].map fun g =>
        ⟨rectX g i, pointTile c a2 h2 a3 h3 a4 h4 a5 h5 a6 h6 a7 h7 a9 x0 x1 x2 x3 x4 x5 g i⟩ := by
  unfold kernelRun0_A
  dsimp only
  rfl

end Point

end Cert.KernelIdeal.Fox
-- ==== Proof.Softmax.lean ====
/-
  The mathematics of causal attention over the extended reals: the online recursion over tiles of 512 keys, and the
  plain softmax over all 4096 keys, are one weighted mean. No program occurs here.
-/
module

public import Idealize.ShloMosaic.PureOps.Ideal
public import Mathlib.Analysis.SpecialFunctions.Pow.Real

@[expose] public section

noncomputable section

namespace Cert.Softmax

open Idealize.ShloMosaic

/-! ## Sums and the exponential -/

/-- A finite nonnegative factor goes into a sum. -/
theorem mul_sum {ι : Type} (s : Finset ι) (f : ι → EReal) {x : EReal} (h0 : 0 ≤ x) (h1 : x ≠ ⊤) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 h1, ih]

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp2_nonneg (x : EReal) : 0 ≤ Ideal.exp2 x := by
  induction x with
  | bot => simp
  | top => simp
  | coe r => rw [Ideal.exp2_coe]; exact_mod_cast (Real.rpow_pos_of_pos two_pos r).le

theorem exp2_ne_top {x : EReal} (h : x ≠ ⊤) : Ideal.exp2 x ≠ ⊤ := by
  induction x with
  | bot => simp
  | top => exact absurd rfl h
  | coe r => rw [Ideal.exp2_coe]; exact EReal.coe_ne_top _

/-- Rescaling from one real maximum to another. -/
theorem exp2_rescale (a b : ℝ) {x : EReal} (h : x ≠ ⊤) :
    Ideal.exp2 ((a : EReal) - b) * Ideal.exp2 (x - a) = Ideal.exp2 (x - b) := by
  induction x with
  | bot => simp
  | top => exact absurd rfl h
  | coe r =>
    rw [← EReal.coe_sub, ← EReal.coe_sub, ← EReal.coe_sub, Ideal.exp2_coe, Ideal.exp2_coe, Ideal.exp2_coe, ← EReal.coe_mul]
    congr 1
    show (2 : ℝ) ^ (a - b) * (2 : ℝ) ^ (r - a) = (2 : ℝ) ^ (r - b)
    rw [← Real.rpow_add two_pos]
    congr 1
    ring

/-! ## The online recursion -/

/-- The running maximum before tile `n`, from the tiles' scores. -/
def mu (s : ℕ → Fin 512 → EReal) : ℕ → EReal
  | 0 => ⊥
  | n + 1 => max (mu s n) (Finset.univ.fold max ⊥ (s n))

/-- The accumulator before tile `n`, from the tiles' scores and values. -/
def al (s v : ℕ → Fin 512 → EReal) : ℕ → EReal
  | 0 => 0
  | n + 1 => Ideal.exp2 (mu s n - mu s (n + 1)) * al s v n + ∑ k, v n k * Ideal.exp2 (s n k - mu s (n + 1))

theorem fold_max_ne_top {ι : Type} (t : Finset ι) (f : ι → EReal) (h : ∀ k, f k ≠ ⊤) : t.fold max ⊥ f ≠ ⊤ := by
  classical
  induction t using Finset.induction_on with
  | empty => simp
  | insert a t ha ih =>
    rw [Finset.fold_insert ha]
    rcases max_choice (f a) (t.fold max ⊥ f) with e | e <;> rw [e]
    · exact h a
    · exact ih

theorem fold_max_ne_bot {ι : Type} (t : Finset ι) (f : ι → EReal) {k : ι} (hk : k ∈ t) (h : f k ≠ ⊥) : t.fold max ⊥ f ≠ ⊥ := by
  intro e
  have := (Finset.fold_max_le (s := t) (f := f) (b := ⊥) ⊥).mp e.le
  exact h (le_bot_iff.mp (this.2 k hk))

theorem mu_ne_top (s : ℕ → Fin 512 → EReal) (hs : ∀ n k, s n k ≠ ⊤) : ∀ n, mu s n ≠ ⊤
  | 0 => by simp [mu]
  | n + 1 => by
    rw [mu]
    rcases max_choice (mu s n) (Finset.univ.fold max ⊥ (s n)) with e | e <;> rw [e]
    · exact mu_ne_top s hs n
    · exact fold_max_ne_top _ _ (hs n)

theorem mu_ne_bot (s : ℕ → Fin 512 → EReal) (h0 : s 0 0 ≠ ⊥) : ∀ n, mu s (n + 1) ≠ ⊥
  | 0 => by
    rw [mu, mu, max_eq_right bot_le]
    exact fold_max_ne_bot _ _ (Finset.mem_univ 0) h0
  | n + 1 => by
    rw [mu]
    intro e
    exact mu_ne_bot s h0 n (le_bot_iff.mp ((le_max_left _ _).trans e.le))

/-- The accumulator is the weighted sum of all tiles so far, at the maximum so far. -/
theorem al_eq (s v : ℕ → Fin 512 → EReal) (hs : ∀ n k, s n k ≠ ⊤) (h0 : s 0 0 ≠ ⊥) : ∀ n,
    al s v (n + 1) = ∑ j ∈ Finset.range (n + 1), ∑ k, v j k * Ideal.exp2 (s j k - mu s (n + 1))
  | 0 => by
    rw [al, al, mul_zero, zero_add, Finset.sum_range_one]
  | n + 1 => by
    rw [al, al_eq s v hs h0 n, Finset.sum_range_succ _ (n + 1)]
    congr 1
    have ha : ((mu s (n + 1)).toReal : EReal) = mu s (n + 1) := EReal.coe_toReal (mu_ne_top s hs _) (mu_ne_bot s h0 n)
    have hb : ((mu s (n + 2)).toReal : EReal) = mu s (n + 2) := EReal.coe_toReal (mu_ne_top s hs _) (mu_ne_bot s h0 (n + 1))
    have hne : Ideal.exp2 (mu s (n + 1) - mu s (n + 1 + 1)) ≠ ⊤ := by
      rw [show n + 1 + 1 = n + 2 from rfl, ← ha, ← hb, ← EReal.coe_sub, Ideal.exp2_coe]
      exact EReal.coe_ne_top _
    rw [mul_sum _ _ (exp2_nonneg _) hne]
    refine Finset.sum_congr rfl fun j _ => ?_
    rw [mul_sum _ _ (exp2_nonneg _) hne]
    refine Finset.sum_congr rfl fun k _ => ?_
    rw [mul_left_comm]
    congr 1
    rw [show n + 1 + 1 = n + 2 from rfl, ← ha, ← hb]
    exact exp2_rescale _ _ (hs j k)

/-! ## The weighted mean -/

/-- The causal weight of key `t` for query `q`: two to the score, or zero past the query. -/
def wt (σ : ℕ → ℝ) (q t : ℕ) : ℝ := if t ≤ q then (2 : ℝ) ^ σ t else 0

/-- The sum of the weights. -/
def wtSum (σ : ℕ → ℝ) (q : ℕ) : ℝ := ∑ t ∈ Finset.range 4096, wt σ q t

/-- Causal attention for query `q`: the mean of the values under the weights. -/
def attn (σ : ℕ → ℝ) (v : ℕ → EReal) (q : ℕ) : EReal :=
  ∑ t ∈ Finset.range 4096, v t * ((wt σ q t / wtSum σ q : ℝ) : EReal)

/-- The score of key `t` for query `q` under the causal mask. -/
def mask (σ : ℕ → ℝ) (q t : ℕ) : EReal := if t ≤ q then (σ t : EReal) else ⊥

theorem mask_ne_top (σ : ℕ → ℝ) (q t : ℕ) : mask σ q t ≠ ⊤ := by
  unfold mask; split <;> simp

theorem wt_nonneg (σ : ℕ → ℝ) (q t : ℕ) : 0 ≤ wt σ q t := by
  unfold wt; split
  · exact (Real.rpow_pos_of_pos two_pos _).le
  · exact le_rfl

theorem wtSum_pos (σ : ℕ → ℝ) (q : ℕ) : 0 < wtSum σ q := by
  refine Finset.sum_pos' (fun t _ => wt_nonneg σ q t) ⟨0, by simp, ?_⟩
  unfold wt
  rw [if_pos (Nat.zero_le q)]
  exact Real.rpow_pos_of_pos two_pos _

/-- The kernel's weight at a real maximum is the weight times one factor for all keys. -/
theorem exp2_mask (σ : ℕ → ℝ) (q t : ℕ) (M : ℝ) :
    Ideal.exp2 (mask σ q t - M) = ((wt σ q t * (2 : ℝ) ^ (-M) : ℝ) : EReal) := by
  unfold mask wt
  split
  · rw [← EReal.coe_sub, Ideal.exp2_coe]
    congr 1
    show (2 : ℝ) ^ (σ t - M) = _
    rw [sub_eq_add_neg, Real.rpow_add two_pos]
  · simp

/-- The reference's weight at a real maximum is the weight times one factor for all keys. -/
theorem exp_mask (σ : ℕ → ℝ) (q t : ℕ) (M : ℝ) :
    Ideal.exp ((if t ≤ q then (σ t : EReal) * ((Real.log 2 : ℝ) : EReal) else ⊥) - M)
      = ((wt σ q t * Real.exp (-M) : ℝ) : EReal) := by
  unfold wt
  split
  · rw [← EReal.coe_mul, ← EReal.coe_sub, Ideal.exp_coe]
    congr 1
    rw [sub_eq_add_neg, Real.exp_add, Real.rpow_def_of_pos two_pos, mul_comm (Real.log 2)]
  · simp

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The kernel's quotient is the weighted mean. -/
theorem quotient_eq_attn (σ : ℕ → ℝ) (v : ℕ → EReal) (q : ℕ) (M : ℝ) :
    (∑ t ∈ Finset.range 4096, v t * Ideal.exp2 (mask σ q t - M))
        * Ideal.div 1 (∑ t ∈ Finset.range 4096, Ideal.exp2 (mask σ q t - M))
      = attn σ v q := by
  have hκ : (0 : ℝ) < (2 : ℝ) ^ (-M) := Real.rpow_pos_of_pos two_pos _
  have hL := wtSum_pos σ q
  simp only [exp2_mask]
  rw [coe_sum, ← Finset.sum_mul, show ((1 : EReal)) = ((1 : ℝ) : EReal) from rfl]
  show _ * Ideal.div _ ((wtSum σ q * (2 : ℝ) ^ (-M) : ℝ) : EReal) = _
  rw [div_coe _ (mul_pos hL hκ).ne', mul_comm, mul_sum _ _ (by exact_mod_cast (by positivity)) (EReal.coe_ne_top _)]
  unfold attn
  refine Finset.sum_congr rfl fun t _ => ?_
  rw [mul_left_comm, ← EReal.coe_mul]
  congr 2
  field_simp

/-- The reference's sum of normalised weights times values is the weighted mean. -/
theorem softmax_eq_attn (σ : ℕ → ℝ) (v : ℕ → EReal) (q : ℕ) (M : ℝ) :
    (∑ t ∈ Finset.range 4096, Ideal.div (Ideal.exp ((if t ≤ q then (σ t : EReal) * ((Real.log 2 : ℝ) : EReal) else ⊥) - M))
        (∑ u ∈ Finset.range 4096, Ideal.exp ((if u ≤ q then (σ u : EReal) * ((Real.log 2 : ℝ) : EReal) else ⊥) - M)) * v t)
      = attn σ v q := by
  have hκ : (0 : ℝ) < Real.exp (-M) := Real.exp_pos _
  have hL := wtSum_pos σ q
  simp only [exp_mask]
  rw [coe_sum, ← Finset.sum_mul]
  show (∑ t ∈ Finset.range 4096, Ideal.div _ ((wtSum σ q * Real.exp (-M) : ℝ) : EReal) * v t) = _
  unfold attn
  refine Finset.sum_congr rfl fun t _ => ?_
  rw [div_coe _ (mul_pos hL hκ).ne', mul_comm]
  congr 2
  field_simp

/-- Tiles of 512 laid end to end, those past tile `n` adding nothing. -/
theorem sum_tiles (f : ℕ → EReal) (n : ℕ) (hn : n < 8) (h : ∀ t, 512 * (n + 1) ≤ t → f t = 0) :
    ∑ j ∈ Finset.range (n + 1), ∑ k : Fin 512, f (512 * j + k.val) = ∑ t ∈ Finset.range 4096, f t := by
  have key : ∀ m, ∑ j ∈ Finset.range m, ∑ k : Fin 512, f (512 * j + k.val) = ∑ t ∈ Finset.range (512 * m), f t := by
    intro m
    induction m with
    | zero => simp
    | succ m ih =>
      rw [Finset.sum_range_succ, ih, Nat.mul_succ, Finset.sum_range_add, Fin.sum_univ_eq_sum_range (fun k => f (512 * m + k))]
  rw [key, show 4096 = 512 * (n + 1) + (4096 - 512 * (n + 1)) from by omega, Finset.sum_range_add]
  rw [Finset.sum_eq_zero (s := Finset.range (4096 - 512 * (n + 1))) (fun k _ => h _ (by omega)), add_zero]

/-- The online recursion over the masked tiles up to the query's own, its quotient taken, is the weighted mean. -/
theorem online_eq_attn (σ : ℕ → ℝ) (v : ℕ → EReal) (q i : ℕ) (hi : i < 8) (hq : q / 512 = i) :
    al (fun j k => mask σ q (512 * j + k.val)) (fun j k => v (512 * j + k.val)) (i + 1)
        * Ideal.div 1 (al (fun j k => mask σ q (512 * j + k.val)) (fun _ _ => 1) (i + 1))
      = attn σ v q := by
  have hs : ∀ n (k : Fin 512), (fun (j : ℕ) (k : Fin 512) => mask σ q (512 * j + k.val)) n k ≠ ⊤ := fun n k => mask_ne_top _ _ _
  have h0 : (fun (j : ℕ) (k : Fin 512) => mask σ q (512 * j + k.val)) 0 0 ≠ ⊥ := by
    show mask σ q 0 ≠ ⊥
    unfold mask; rw [if_pos (Nat.zero_le q)]; exact EReal.coe_ne_bot _
  rw [al_eq _ _ hs h0, al_eq _ _ hs h0]
  obtain ⟨M, hM⟩ : ∃ M : ℝ, mu (fun j k => mask σ q (512 * j + k.val)) (i + 1) = (M : EReal) :=
    ⟨_, (EReal.coe_toReal (mu_ne_top _ hs _) (mu_ne_bot _ h0 i)).symm⟩
  rw [hM]
  have hz : ∀ t, 512 * (i + 1) ≤ t → Ideal.exp2 (mask σ q t - M) = 0 := by
    intro t ht
    have : ¬ t ≤ q := by omega
    unfold mask; rw [if_neg this]; simp
  rw [sum_tiles (fun t => v t * Ideal.exp2 (mask σ q t - M)) i hi (fun t ht => by rw [hz t ht, mul_zero]),
    sum_tiles (fun t => 1 * Ideal.exp2 (mask σ q t - M)) i hi (fun t ht => by rw [hz t ht, mul_zero])]
  simp only [one_mul]
  exact quotient_eq_attn σ v q M

/-! ## Reals among the extended reals -/

/-- An extended real that is a real. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

theorem IsReal.coe_toReal {x : EReal} (h : IsReal x) : (x.toReal : EReal) = x := by
  obtain ⟨a, rfl⟩ := h; rw [EReal.toReal_coe]

end Cert.Softmax
-- ==== Proof.FoxRead.lean ====
/-
  What a grid point of the attention computes, over the extended reals: each entry of its output block is the causal
  weighted mean of the values, times the gate.
-/
module

public import proofs.«01_k».proof.Proof.FoxTile
public import proofs.«01_k».proof.Proof.Softmax
public import Idealize.ShloMosaic.Lib.Pointwise
public import Idealize.ShloMosaic.Lib.WordCmp

@[expose] public section

set_option maxRecDepth 65536

noncomputable section

namespace Cert.KernelIdeal.Fox

open Cert.KernelIdeal Cert.KernelIdeal.Gen Idealize.ShloMosaic Idealize.ShloMosaic.TcCoe Idealize.SL.Sem Cert.Softmax

theorem neg_inf : Ideal.ofBits .f32 0xFF800000#32 = ⊥ := by simp [Ideal.ofBits, Ideal.ieee]

/-! ## One tile, read at an index -/

theorem score_apply (k : FVec Ideal S1x512x128 .bf16) (ak : FVec Ideal S1x1x512x128 .bf16) (q : FVec Ideal S1x512x128 .bf16)
    (aq : FVec Ideal S1x1x512x128 .bf16) (a r : Fin 512) :
    score k ak q aq (ix2 a r)
      = ∑ x : Fin 128, k (ix3 0 a x) * q (ix3 0 r x) + ∑ x : Fin 128, ak (ix4 0 0 a x) * aq (ix4 0 0 r x) := by
  pointwise [score, joined]

theorem masked_apply (s : FVec Ideal S512x512 .f32) (a r : Fin 512) :
    masked s (ix2 a r) = if a.val ≤ r.val then s (ix2 a r) else ⊥ := by
  pointwise [masked]
  rw [WordCmp.cmpi_sle_ofNat (by have := a.isLt; norm_num; omega) (by have := r.isLt; norm_num; omega), neg_inf]
  by_cases h : a.val ≤ r.val <;> simp [Scalar.select, h]

theorem stepM_apply (m : FVec Ideal S1x512 .f32) (s : FVec Ideal S512x512 .f32) (r : Fin 512) :
    stepM m s (ix2 0 r) = max (m (ix2 0 r)) (Finset.univ.fold max ⊥ fun x : Fin 512 => s (ix2 x r)) := by
  pointwise [stepM]
  rw [neg_inf]

theorem stepA_apply (m : FVec Ideal S1x512 .f32) (acc : FVec Ideal S144x512 .f32) (s : FVec Ideal S512x512 .f32)
    (vt : FVec Ideal S1x1x144x512 .bf16) (d : Fin 144) (r : Fin 512) :
    stepA m acc s vt (ix2 d r) = Ideal.exp2 (m (ix2 0 r) - stepM m s (ix2 0 r)) * acc (ix2 d r)
      + ∑ x : Fin 512, vt (ix4 0 0 d x) * Ideal.exp2 (s (ix2 x r) - stepM m s (ix2 0 r)) := by
  pointwise [stepA]
  rfl

theorem gated_apply (acc : FVec Ideal S144x512 .f32) (z : FVec Ideal S1x512x128 .bf16) (r : Fin 512) (d : Fin 128) :
    gated acc z (ix3 0 r d) = acc (ix2 ⟨d.val, by omega⟩ r) * Ideal.div 1 (acc (ix2 128 r))
      * (z (ix3 0 r d) * Ideal.logistic (z (ix3 0 r d))) := by
  pointwise [gated]

theorem turned_apply (t : FVec Ideal S1x512x128 .bf16) (d : Fin 128) (r : Fin 512) :
    turned t (ix4 0 0 d r) = t (ix3 0 r d) := by
  pointwise [turned]

theorem onesTile_apply (d : Fin 16) (r : Fin 512) : (onesTile (F := Ideal)) (ix4 0 0 d r) = 1 := by
  pointwise [onesTile]

/-! ## The recursion over key tiles is the online recursion of the masked scores -/

section Tile

variable (s : ℕ → FVec Ideal S512x512 .f32) (vt : ℕ → FVec Ideal S1x1x144x512 .bf16) (σ : ℕ → ℝ) (i : ℕ) (r : Fin 512)

theorem runM_apply (hs : ∀ j ≤ i, ∀ a : Fin 512, s j (ix2 a r) = σ (512 * j + a.val)) : ∀ n ≤ i,
    runM s n (ix2 0 r) = mu (fun j k => mask σ (512 * i + r.val) (512 * j + k.val)) n
  | 0, _ => by
    pointwise [runM]
    rw [neg_inf]; rfl
  | n + 1, h => by
    rw [runM, stepM_apply, runM_apply hs n (by omega), mu]
    congr 2
    funext a
    rw [hs n (by omega)]
    unfold mask
    rw [if_pos (by have := a.isLt; omega)]

theorem stepM_masked (hs : ∀ j ≤ i, ∀ a : Fin 512, s j (ix2 a r) = σ (512 * j + a.val)) :
    stepM (runM s i) (masked (s i)) (ix2 0 r) = mu (fun j k => mask σ (512 * i + r.val) (512 * j + k.val)) (i + 1) := by
  rw [stepM_apply, runM_apply s σ i r hs i le_rfl, mu]
  congr 2
  funext a
  rw [masked_apply, hs i le_rfl]
  unfold mask
  simp only [Nat.add_le_add_iff_left]

theorem runA_apply (hs : ∀ j ≤ i, ∀ a : Fin 512, s j (ix2 a r) = σ (512 * j + a.val)) (d : Fin 144) (v : ℕ → EReal)
    (hv : ∀ j ≤ i, ∀ a : Fin 512, vt j (ix4 0 0 d a) = v (512 * j + a.val)) : ∀ n ≤ i,
    runA s vt n (ix2 d r)
      = al (fun j k => mask σ (512 * i + r.val) (512 * j + k.val)) (fun j k => v (512 * j + k.val)) n
  | 0, _ => by
    pointwise [runA]
    rfl
  | n + 1, h => by
    have hm := runM_apply s σ i r hs (n + 1) h
    rw [runM] at hm
    rw [runA, stepA_apply, runA_apply hs d v hv n (by omega), hm, runM_apply s σ i r hs n (by omega), al]
    congr 1
    refine Finset.sum_congr rfl fun a _ => ?_
    rw [hv n (by omega), hs n (by omega)]
    unfold mask
    rw [if_pos (by have := a.isLt; omega)]

theorem stepA_masked (hs : ∀ j ≤ i, ∀ a : Fin 512, s j (ix2 a r) = σ (512 * j + a.val)) (d : Fin 144) (v : ℕ → EReal)
    (hv : ∀ j ≤ i, ∀ a : Fin 512, vt j (ix4 0 0 d a) = v (512 * j + a.val)) :
    stepA (runM s i) (runA s vt i) (masked (s i)) (vt i) (ix2 d r)
      = al (fun j k => mask σ (512 * i + r.val) (512 * j + k.val)) (fun j k => v (512 * j + k.val)) (i + 1) := by
  rw [stepA_apply, runA_apply s vt σ i r hs d v hv i le_rfl, stepM_masked s σ i r hs, runM_apply s σ i r hs i le_rfl, al]
  congr 1
  refine Finset.sum_congr rfl fun a _ => ?_
  rw [hv i le_rfl, masked_apply, hs i le_rfl]
  unfold mask
  simp only [Nat.add_le_add_iff_left]

end Tile

/-- The output tile at an index: the causal weighted mean for its query, times the gate. -/
theorem outTile_apply (q k z : ℕ → FVec Ideal S1x512x128 .bf16) (aq ak : ℕ → FVec Ideal S1x1x512x128 .bf16)
    (vt : ℕ → FVec Ideal S1x1x144x512 .bf16) (i : ℕ) (hi : i < 8) (r : Fin 512) (d : Fin 128) (σ : ℕ → ℝ) (v : ℕ → EReal)
    (hs : ∀ j ≤ i, ∀ a : Fin 512, score (k j) (ak j) (q i) (aq i) (ix2 a r) = σ (512 * j + a.val))
    (hv : ∀ j ≤ i, ∀ a : Fin 512, vt j (ix4 0 0 ⟨d.val, by omega⟩ a) = v (512 * j + a.val))
    (h1 : ∀ j ≤ i, ∀ a : Fin 512, vt j (ix4 0 0 128 a) = 1) :
    outTile q k z aq ak vt i (ix3 0 r d)
      = attn σ v (512 * i + r.val) * (z i (ix3 0 r d) * Ideal.logistic (z i (ix3 0 r d))) := by
  unfold outTile
  rw [gated_apply, stepA_masked (fun j => score (k j) (ak j) (q i) (aq i)) vt σ i r hs _ v hv,
    stepA_masked (fun j => score (k j) (ak j) (q i) (aq i)) vt σ i r hs 128 (fun _ => 1) h1,
    online_eq_attn σ v (512 * i + r.val) i hi (by have := r.isLt; omega)]

/-! ## The tiles a grid point loads, read at an index -/

/-- A staged block's entry, its indices read modulo the extents. -/
def atX (x : Vec Ideal S1x4096x256 .bf16) (r d : ℕ) : EReal :=
  x (ix3 0 ⟨r % 4096, Nat.mod_lt _ (by decide)⟩ ⟨d % 256, Nat.mod_lt _ (by decide)⟩)

/-- The same of the extra columns. -/
def atA (x : Vec Ideal S1x2x4096x128 .bf16) (g r d : ℕ) : EReal :=
  x (ix4 0 ⟨g % 2, Nat.mod_lt _ (by decide)⟩ ⟨r % 4096, Nat.mod_lt _ (by decide)⟩ ⟨d % 128, Nat.mod_lt _ (by decide)⟩)

section Point

variable (c : Dev nD) (p : grid0.Coords)
  (a2 : Memref sig .tc .vmem S1x4096x256 .bf16) (h2 : a2.IsWhole) (a3 : Memref sig .tc .vmem S1x4096x256 .bf16) (h3 : a3.IsWhole)
  (a4 : Memref sig .tc .vmem S1x4096x256 .bf16) (h4 : a4.IsWhole) (a5 : Memref sig .tc .vmem S1x4096x256 .bf16) (h5 : a5.IsWhole)
  (a6 : Memref sig .tc .vmem S1x2x4096x128 .bf16) (h6 : a6.IsWhole) (a7 : Memref sig .tc .vmem S1x2x4096x128 .bf16) (h7 : a7.IsWhole)
  (a8 : Memref sig .tc .vmem S1x4096x256 .bf16) (h8 : a8.IsWhole) (a9 : Memref sig .tc .vmem S2x8x144x512 .bf16) (h9 : a9.IsWhole)
  (x0 x1 x2 x3 : Vec Ideal S1x4096x256 .bf16) (x4 x5 : Vec Ideal S1x2x4096x128 .bf16)

theorem loadX_apply (a : Memref sig .tc .vmem S1x4096x256 .bf16) (h : a.IsWhole) (x : Vec Ideal S1x4096x256 .bf16) (g i : ℕ)
    (hg : g < 2) (hi : i < 8) (r : Fin 512) (d : Fin 128) :
    loadX a h x g i (ix3 0 r d) = atX x (512 * i + r.val) (128 * g + d.val) := by
  unfold loadX
  rw [View.readAt_eq_ld, h.read_unread]
  unfold atX View.ld
  congr 1
  funext a
  apply Fin.ext
  have := r.isLt
  have := d.isLt
  match a with
  | ⟨0, _⟩ => rfl
  | ⟨1, _⟩ => show 512 * (i % 8) + 1 * r.val = (512 * i + r.val) % 4096; omega
  | ⟨2, _⟩ => show 128 * (g % 2) + 1 * d.val = (128 * g + d.val) % 256; omega

theorem loadA_apply (a : Memref sig .tc .vmem S1x2x4096x128 .bf16) (h : a.IsWhole) (x : Vec Ideal S1x2x4096x128 .bf16) (g i : ℕ)
    (hg : g < 2) (hi : i < 8) (r : Fin 512) (d : Fin 128) :
    loadA a h x g i (ix4 0 0 r d) = atA x g (512 * i + r.val) d.val := by
  unfold loadA
  rw [View.readAt_eq_ld, h.read_unread]
  unfold atA View.ld
  congr 1
  funext a
  apply Fin.ext
  have := r.isLt
  have := d.isLt
  match a with
  | ⟨0, _⟩ => rfl
  | ⟨1, _⟩ => show g % 2 + 1 * 0 = g % 2; omega
  | ⟨2, _⟩ => show 512 * (i % 8) + 1 * r.val = (512 * i + r.val) % 4096; omega
  | ⟨3, _⟩ => show 0 + 1 * d.val = d.val % 128; omega

/-- What the scratch buffer holds: transposed values over rows of ones. -/
def scratch (x : Vec Ideal S1x4096x256 .bf16) (y : S2x8x144x512.Idx) : EReal :=
  if (y 2).val < 128 then atX x (512 * (y 1).val + (y 3).val) (128 * (y 0).val + (y 2).val) else 1

theorem scratch_canon (y : S2x8x144x512.Idx) : View.canon (kernelRun0_A.sl.HS0_32 c a4 h4 x2) y = scratch x2 y := by
  refine View.canon_apply_of_pieces (Val := Elt Ideal) (e := .bf16) (scratch x2) _ ?_ y ?_
  · rw [scratch_pieces]
    intro p hp
    simp only [List.mem_flatMap, List.mem_cons, List.not_mem_nil, or_false] at hp
    obtain ⟨g, hg, j, hj, rfl | rfl⟩ := hp
    · intro x
      obtain ⟨d, r, rfl⟩ : ∃ (d : Fin 16) (r : Fin 512), x = ix4 0 0 d r :=
        ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
      refine (onesTile_apply d r).trans ?_
      unfold scratch
      rw [if_neg]
      show ¬ (128 + 1 * d.val < 128)
      omega
    · intro x
      obtain ⟨d, r, rfl⟩ : ∃ (d : Fin 128) (r : Fin 512), x = ix4 0 0 d r :=
        ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
      refine (turned_apply _ d r).trans ?_
      rw [loadX_apply _ _ _ _ _ (by omega) (by omega)]
      unfold scratch
      show _ = if 0 + 1 * d.val < 128 then
        atX x2 (512 * (j % 8 + 1 * 0) + (0 + 1 * r.val)) (128 * (g % 2 + 1 * 0) + (0 + 1 * d.val)) else 1
      rw [if_pos (by have := d.isLt; omega)]
      congr 1 <;> omega
  · rw [scratch_pieces]
    have e0 : (y 0).val < 2 := (y 0).isLt
    have e1 : (y 1).val < 8 := (y 1).isLt
    have e2 : (y 2).val < 144 := (y 2).isLt
    have e3 : (y 3).val < 512 := (y 3).isLt
    simp only [List.mem_flatMap, List.mem_cons, List.not_mem_nil, or_false]
    by_cases h : (y 2).val < 128
    · refine ⟨_, ⟨(y 0).val, by omega, (y 1).val, by omega, Or.inr rfl⟩, ?_⟩
      rw [Rect.mem_set_unit]
      intro a
      match a with
      | ⟨0, _⟩ => show (y 0).val % 2 ≤ (y 0).val ∧ (y 0).val < (y 0).val % 2 + 1; omega
      | ⟨1, _⟩ => show (y 1).val % 8 ≤ (y 1).val ∧ (y 1).val < (y 1).val % 8 + 1; omega
      | ⟨2, _⟩ => show 0 ≤ (y 2).val ∧ (y 2).val < 0 + 128; omega
      | ⟨3, _⟩ => show 0 ≤ (y 3).val ∧ (y 3).val < 0 + 512; omega
    · refine ⟨_, ⟨(y 0).val, by omega, (y 1).val, by omega, Or.inl rfl⟩, ?_⟩
      rw [Rect.mem_set_unit]
      intro a
      match a with
      | ⟨0, _⟩ => show (y 0).val % 2 ≤ (y 0).val ∧ (y 0).val < (y 0).val % 2 + 1; omega
      | ⟨1, _⟩ => show (y 1).val % 8 ≤ (y 1).val ∧ (y 1).val < (y 1).val % 8 + 1; omega
      | ⟨2, _⟩ => show 128 ≤ (y 2).val ∧ (y 2).val < 128 + 16; omega
      | ⟨3, _⟩ => show 0 ≤ (y 3).val ∧ (y 3).val < 0 + 512; omega

theorem loadV_apply (g j : ℕ) (hg : g < 2) (hj : j < 8) (d : Fin 144) (r : Fin 512) :
    loadV c a4 h4 a9 x2 g j (ix4 0 0 d r)
      = if d.val < 128 then atX x2 (512 * j + r.val) (128 * g + d.val) else 1 := by
  unfold loadV
  rw [View.readCov_eq_canon']
  refine (scratch_canon c a4 h4 x2 _).trans ?_
  show (if 0 + 1 * d.val < 128 then atX x2 (512 * (j % 8 + 1 * 0) + (0 + 1 * r.val)) (128 * (g % 2 + 1 * 0) + (0 + 1 * d.val)) else 1) = _
  rw [show 0 + 1 * d.val = d.val by omega, show 512 * (j % 8 + 1 * 0) + (0 + 1 * r.val) = 512 * j + r.val by omega,
    show g % 2 + 1 * 0 = g by omega]

/-! ## A grid point's output block -/

/-- The score of key `t` for query `R` of head `g` of a pair: the head's columns and the extra columns. -/
def scoreX (x0 x1 : Vec Ideal S1x4096x256 .bf16) (x4 x5 : Vec Ideal S1x2x4096x128 .bf16) (g R t : ℕ) : EReal :=
  ∑ d : Fin 128, atX x1 t (128 * g + d.val) * atX x0 R (128 * g + d.val)
    + ∑ d : Fin 128, atA x5 g t d.val * atA x4 g R d.val

/-- A grid point's output block, entry by entry. -/
def pointOut (x0 x1 x2 x3 : Vec Ideal S1x4096x256 .bf16) (x4 x5 : Vec Ideal S1x2x4096x128 .bf16) (y : S1x4096x256.Idx) : EReal :=
  attn (fun t => (scoreX x0 x1 x4 x5 ((y 2).val / 128) (y 1).val t).toReal) (fun t => atX x2 t (y 2).val) (y 1).val
    * (atX x3 (y 1).val (y 2).val * Ideal.logistic (atX x3 (y 1).val (y 2).val))

/-- Every entry of a grid point's output block, given that queries, keys and extra columns are real. -/
theorem point_canon (r0 : ∀ y, IsReal (x0 y)) (r1 : ∀ y, IsReal (x1 y)) (r4 : ∀ y, IsReal (x4 y)) (r5 : ∀ y, IsReal (x5 y))
    (y : S1x4096x256.Idx) :
    View.canon (kernelRun0_A c p a2 h2 a3 h3 a4 h4 a5 h5 a6 h6 a7 h7 a8 h8 a9 h9 x0 x1 x2 x3 x4 x5).1 y
      = pointOut x0 x1 x2 x3 x4 x5 y := by
  refine View.canon_apply_of_pieces (Val := Elt Ideal) (e := .bf16) (pointOut x0 x1 x2 x3 x4 x5) _ ?_ y ?_
  · rw [pieces]
    intro q hq
    simp only [List.mem_flatMap, List.mem_map, List.mem_cons, List.not_mem_nil, or_false] at hq
    obtain ⟨i, hi, g, hg, rfl⟩ := hq
    intro x
    obtain ⟨r, d, rfl⟩ : ∃ (r : Fin 512) (d : Fin 128), x = ix3 0 r d :=
      ⟨x 1, x 2, by funext a; match a with | ⟨0, _⟩ => exact Subsingleton.elim (α := Fin 1) _ _ | ⟨1, _⟩ => rfl | ⟨2, _⟩ => rfl⟩
    have hi : i < 8 := by omega
    have hg : g < 2 := by omega
    have hr := r.isLt
    have hd := d.isLt
    refine (outTile_apply _ _ _ _ _ _ i hi r d (fun t => (scoreX x0 x1 x4 x5 g (512 * i + r.val) t).toReal)
      (fun t => atX x2 t (128 * g + d.val)) ?_ ?_ ?_).trans ?_
    · intro j hj a
      rw [score_apply]
      simp only [loadX_apply _ _ _ g j hg (by omega), loadX_apply _ _ _ g i hg hi, loadA_apply _ _ _ g j hg (by omega),
        loadA_apply _ _ _ g i hg hi]
      refine (IsReal.coe_toReal (x := scoreX x0 x1 x4 x5 g (512 * i + r.val) (512 * j + a.val)) ?_).symm
      exact (IsReal.sum _ _ fun d => (r1 _).mul (r0 _)).add (IsReal.sum _ _ fun d => (r5 _).mul (r4 _))
    · intro j hj a
      rw [loadV_apply _ _ _ _ _ g j hg (by omega), if_pos hd]
    · intro j hj a
      rw [loadV_apply _ _ _ _ _ g j hg (by omega), if_neg (by decide)]
    · rw [loadX_apply _ _ _ g i hg hi]
      unfold pointOut
      show _ = attn (fun t => (scoreX x0 x1 x4 x5 ((128 * (g % 2) + 1 * d.val) / 128) (512 * (i % 8) + 1 * r.val) t).toReal)
        (fun t => atX x2 t (128 * (g % 2) + 1 * d.val)) (512 * (i % 8) + 1 * r.val)
        * (atX x3 (512 * (i % 8) + 1 * r.val) (128 * (g % 2) + 1 * d.val)
          * Ideal.logistic (atX x3 (512 * (i % 8) + 1 * r.val) (128 * (g % 2) + 1 * d.val)))
      rw [show (128 * (g % 2) + 1 * d.val) / 128 = g by omega, show 512 * (i % 8) + 1 * r.val = 512 * i + r.val by omega,
        show 128 * (g % 2) + 1 * d.val = 128 * g + d.val by omega]
  · rw [pieces]
    have e0 : (y 0).val < 1 := (y 0).isLt
    have e1 : (y 1).val < 4096 := (y 1).isLt
    have e2 : (y 2).val < 256 := (y 2).isLt
    simp only [List.mem_flatMap, List.mem_map, List.mem_cons, List.not_mem_nil, or_false]
    refine ⟨_, ⟨(y 1).val / 512, by omega, (y 2).val / 128, by omega, rfl⟩, ?_⟩
    rw [Rect.mem_set_unit]
    intro a
    match a with
    | ⟨0, _⟩ => show 0 ≤ (y 0).val ∧ (y 0).val < 0 + 1; omega
    | ⟨1, _⟩ => show 512 * ((y 1).val / 512 % 8) ≤ (y 1).val ∧ (y 1).val < 512 * ((y 1).val / 512 % 8) + 512; omega
    | ⟨2, _⟩ => show 128 * ((y 2).val / 128 % 2) ≤ (y 2).val ∧ (y 2).val < 128 * ((y 2).val / 128 % 2) + 128; omega

end Point

end Cert.KernelIdeal.Fox
-- ==== Proof.Attention.lean ====
/-
  The attention that both programs are shown to compute, entry by entry, from the packed queries, keys, values and gates
  and the extra columns of queries and keys. No program occurs here.
-/
module

public import proofs.«01_k».proof.Proof.Softmax
public import Idealize.ShloMosaic.Lib.Pointwise.Index

@[expose] public section

noncomputable section

namespace Cert.Softmax

open Idealize.ShloMosaic

/-- An entry of the packed array, its indices read modulo the extents. -/
def atQ (X : (⟨3, ![2, 4096, 16384]⟩ : Shape).Idx → EReal) (b r d : ℕ) : EReal :=
  X (ix3 ⟨b % 2, Nat.mod_lt _ (by decide)⟩ ⟨r % 4096, Nat.mod_lt _ (by decide)⟩ ⟨d % 16384, Nat.mod_lt _ (by decide)⟩)

/-- An entry of an array of extra columns, its indices read modulo the extents. -/
def atE (A : (⟨4, ![2, 32, 4096, 128]⟩ : Shape).Idx → EReal) (b h r d : ℕ) : EReal :=
  A (ix4 ⟨b % 2, Nat.mod_lt _ (by decide)⟩ ⟨h % 32, Nat.mod_lt _ (by decide)⟩ ⟨r % 4096, Nat.mod_lt _ (by decide)⟩
    ⟨d % 128, Nat.mod_lt _ (by decide)⟩)

/-- Read at indices within the extents, the packed array's entry. -/
theorem atQ_fin (X : (⟨3, ![2, 4096, 16384]⟩ : Shape).Idx → EReal) (b : Fin 2) (r : Fin 4096) {d : ℕ} (h : d < 16384) :
    atQ X b.val r.val d = X (ix3 b r ⟨d, h⟩) := by
  unfold atQ
  simp only [Nat.mod_eq_of_lt b.isLt, Nat.mod_eq_of_lt r.isLt, Nat.mod_eq_of_lt h]

/-- Read at indices within the extents, the extra columns' entry. -/
theorem atE_fin (A : (⟨4, ![2, 32, 4096, 128]⟩ : Shape).Idx → EReal) (b : Fin 2) (h : Fin 32) (r : Fin 4096) (d : Fin 128) :
    atE A b.val h.val r.val d.val = A (ix4 b h r d) := by
  unfold atE
  simp only [Nat.mod_eq_of_lt b.isLt, Nat.mod_eq_of_lt h.isLt, Nat.mod_eq_of_lt r.isLt, Nat.mod_eq_of_lt d.isLt]

/-- The score of key `t` for query `R` of head `h`. -/
def scoreS (X : (⟨3, ![2, 4096, 16384]⟩ : Shape).Idx → EReal) (Aq Ak : (⟨4, ![2, 32, 4096, 128]⟩ : Shape).Idx → EReal)
    (b h R t : ℕ) : EReal :=
  ∑ d : Fin 128, atQ X b t (4096 + (128 * h + d.val)) * atQ X b R (128 * h + d.val)
    + ∑ d : Fin 128, atE Ak b h t d.val * atE Aq b h R d.val

/-- The gated attention at batch `b`, row `R`, column `C`. -/
def gatedAttn (X : (⟨3, ![2, 4096, 16384]⟩ : Shape).Idx → EReal) (Aq Ak : (⟨4, ![2, 32, 4096, 128]⟩ : Shape).Idx → EReal)
    (b R C : ℕ) : EReal :=
  attn (fun t => (scoreS X Aq Ak b (C / 128) R t).toReal) (fun t => atQ X b t (8192 + C)) R
    * (atQ X b R (12288 + C) * Ideal.logistic (atQ X b R (12288 + C)))

end Cert.Softmax
-- ==== Proof.FoxArray.lean ====
/-
  What the attention kernel leaves in its result array: the gated attention of its arguments, entry by entry.
-/
module

public import proofs.«01_k».proof.Proof.FoxRead
public import proofs.«01_k».proof.Proof.Attention
public import Idealize.ShloMosaic.Lib.Pipeline.ValueKit

@[expose] public section

set_option maxRecDepth 65536

noncomputable section

namespace Cert.KernelIdeal.Fox

open Cert.KernelIdeal Cert.KernelIdeal.Gen Idealize.ShloMosaic Idealize.ShloMosaic.TcCoe Idealize.SL.Sem Cert.Softmax
open Idealize.ShloMosaic.Pipeline (Dat)

/-! ## The blocks of each grid point -/

theorem index0 : ∀ t : Fin cfg0.N, win0_0.index t = ![(grid0.coords t 0).val, 0, (grid0.coords t 1).val] :=
  (by decide +kernel : ∀ t : Fin grid0.N, _)
theorem index1 : ∀ t : Fin cfg0.N, win0_1.index t = ![(grid0.coords t 0).val, 0, 16 + (grid0.coords t 1).val] :=
  (by decide +kernel : ∀ t : Fin grid0.N, _)
theorem index2 : ∀ t : Fin cfg0.N, win0_2.index t = ![(grid0.coords t 0).val, 0, 32 + (grid0.coords t 1).val] :=
  (by decide +kernel : ∀ t : Fin grid0.N, _)
theorem index3 : ∀ t : Fin cfg0.N, win0_3.index t = ![(grid0.coords t 0).val, 0, 48 + (grid0.coords t 1).val] :=
  (by decide +kernel : ∀ t : Fin grid0.N, _)
theorem index4 : ∀ t : Fin cfg0.N, win0_4.index t = ![(grid0.coords t 0).val, (grid0.coords t 1).val, 0, 0] :=
  (by decide +kernel : ∀ t : Fin grid0.N, _)
theorem index5 : ∀ t : Fin cfg0.N, win0_5.index t = ![(grid0.coords t 0).val, (grid0.coords t 1).val, 0, 0] :=
  (by decide +kernel : ∀ t : Fin grid0.N, _)
theorem index6 : ∀ t : Fin cfg0.N, win0_6.index t = ![(grid0.coords t 0).val, 0, (grid0.coords t 1).val] :=
  (by decide +kernel : ∀ t : Fin grid0.N, _)

variable (m : (ℓ : Loc nD τ sig) → Buf (Elt Ideal) ℓ)

/-- The packed argument. -/
abbrev argX (c : Dev nD) : S2x4096x16384.Idx → EReal := m ((c : Thread nD τ).loc main_arg0)
/-- The queries' extra columns. -/
abbrev argQ (c : Dev nD) : S2x32x4096x128.Idx → EReal := m ((c : Thread nD τ).loc main_arg1)
/-- The keys' extra columns. -/
abbrev argK (c : Dev nD) : S2x32x4096x128.Idx → EReal := m ((c : Thread nD τ).loc main_arg2)

theorem coord0_lt (t : Fin cfg0.N) : (grid0.coords t 0).val < 2 := (grid0.coords t 0).isLt
theorem coord1_lt (t : Fin cfg0.N) : (grid0.coords t 1).val < 16 := (grid0.coords t 1).isLt

theorem block0 (c : Dev nD) (t : Fin cfg0.N) (r d : ℕ) (hd : d < 256) :
    atX (iblk m c 0 t) r d = atQ (argX m c) (grid0.coords t 0).val r (256 * (grid0.coords t 1).val + d) := by
  have := coord0_lt t
  have := coord1_lt t
  unfold atX atQ
  blk_simp [iblk]
  rw [V_main_arg0]
  congr 1
  blk_ext [index0]

theorem block1 (c : Dev nD) (t : Fin cfg0.N) (r d : ℕ) (hd : d < 256) :
    atX (iblk m c 1 t) r d = atQ (argX m c) (grid0.coords t 0).val r (4096 + (256 * (grid0.coords t 1).val + d)) := by
  have := coord0_lt t
  have := coord1_lt t
  unfold atX atQ
  blk_simp [iblk]
  rw [V_main_arg0]
  congr 1
  blk_ext [index1]

theorem block2 (c : Dev nD) (t : Fin cfg0.N) (r d : ℕ) (hd : d < 256) :
    atX (iblk m c 2 t) r d = atQ (argX m c) (grid0.coords t 0).val r (8192 + (256 * (grid0.coords t 1).val + d)) := by
  have := coord0_lt t
  have := coord1_lt t
  unfold atX atQ
  blk_simp [iblk]
  rw [V_main_arg0]
  congr 1
  blk_ext [index2]

theorem block3 (c : Dev nD) (t : Fin cfg0.N) (r d : ℕ) (hd : d < 256) :
    atX (iblk m c 3 t) r d = atQ (argX m c) (grid0.coords t 0).val r (12288 + (256 * (grid0.coords t 1).val + d)) := by
  have := coord0_lt t
  have := coord1_lt t
  unfold atX atQ
  blk_simp [iblk]
  rw [V_main_arg0]
  congr 1
  blk_ext [index3]

theorem block4 (c : Dev nD) (t : Fin cfg0.N) (g r d : ℕ) (hg : g < 2) :
    atA (iblk m c 4 t) g r d = atE (argQ m c) (grid0.coords t 0).val (2 * (grid0.coords t 1).val + g) r d := by
  have := coord0_lt t
  have := coord1_lt t
  unfold atA atE
  blk_simp [iblk]
  rw [V_main_arg1]
  congr 1
  blk_ext [index4]

theorem block5 (c : Dev nD) (t : Fin cfg0.N) (g r d : ℕ) (hg : g < 2) :
    atA (iblk m c 5 t) g r d = atE (argK m c) (grid0.coords t 0).val (2 * (grid0.coords t 1).val + g) r d := by
  have := coord0_lt t
  have := coord1_lt t
  unfold atA atE
  blk_simp [iblk]
  rw [V_main_arg2]
  congr 1
  blk_ext [index5]

/-! ## Real arguments give real blocks -/

theorem real0 (c : Dev nD) (rx : ∀ y : S2x4096x16384.Idx, (y 2).val < 8192 → IsReal (argX m c y)) (t : Fin cfg0.N) (y) :
    IsReal (iblk m c 0 t y) := by
  have := coord1_lt t
  blk_simp [iblk]
  rw [V_main_arg0]
  refine rx _ ?_
  idx_bounds y
  blk_simp [index0]
  omega

theorem real1 (c : Dev nD) (rx : ∀ y : S2x4096x16384.Idx, (y 2).val < 8192 → IsReal (argX m c y)) (t : Fin cfg0.N) (y) :
    IsReal (iblk m c 1 t y) := by
  have := coord1_lt t
  blk_simp [iblk]
  rw [V_main_arg0]
  refine rx _ ?_
  idx_bounds y
  blk_simp [index1]
  omega

theorem real4 (c : Dev nD) (rq : ∀ y, IsReal (argQ m c y)) (t : Fin cfg0.N) (y) : IsReal (iblk m c 4 t y) := by
  blk_simp [iblk]
  rw [V_main_arg1]
  exact rq _

theorem real5 (c : Dev nD) (rk : ∀ y, IsReal (argK m c y)) (t : Fin cfg0.N) (y) : IsReal (iblk m c 5 t y) := by
  blk_simp [iblk]
  rw [V_main_arg2]
  exact rk _

/-! ## The array -/

/-- A grid point's output block is its part of the gated attention. -/
theorem pointOut_eq (c : Dev nD) (t : Fin cfg0.N) (y : S1x4096x256.Idx) :
    pointOut (iblk m c 0 t) (iblk m c 1 t) (iblk m c 2 t) (iblk m c 3 t) (iblk m c 4 t) (iblk m c 5 t) y
      = gatedAttn (argX m c) (argQ m c) (argK m c) (grid0.coords t 0).val (y 1).val ((grid0.coords t 1).val * 256 + (y 2).val) := by
  have e2 : (y 2).val < 256 := (y 2).isLt
  have hs : ∀ u, scoreX (iblk m c 0 t) (iblk m c 1 t) (iblk m c 4 t) (iblk m c 5 t) ((y 2).val / 128) (y 1).val u
      = scoreS (argX m c) (argQ m c) (argK m c) (grid0.coords t 0).val (((grid0.coords t 1).val * 256 + (y 2).val) / 128) (y 1).val u := by
    intro u
    have e : ((grid0.coords t 1).val * 256 + (y 2).val) / 128 = 2 * (grid0.coords t 1).val + (y 2).val / 128 := by omega
    unfold scoreX scoreS
    rw [e]
    congr 1
    · refine Finset.sum_congr rfl fun d _ => ?_
      have := d.isLt
      rw [block0 _ _ _ _ _ (by omega), block1 _ _ _ _ _ (by omega),
        show 256 * (grid0.coords t 1).val + (128 * ((y 2).val / 128) + d.val)
          = 128 * (2 * (grid0.coords t 1).val + (y 2).val / 128) + d.val by omega]
    · refine Finset.sum_congr rfl fun d _ => ?_
      rw [block4 _ _ _ _ _ _ (by omega), block5 _ _ _ _ _ _ (by omega)]
  unfold pointOut gatedAttn
  simp only [hs, block2 m c t _ _ e2, block3 m c t _ _ e2, Nat.mul_comm 256]

/-- The result array is the gated attention of the arguments, given real queries, keys and extra columns. -/
theorem array_eq (c : Dev nD) (rx : ∀ y : S2x4096x16384.Idx, (y 2).val < 8192 → IsReal (argX m c y)) (rq : ∀ y, IsReal (argQ m c y))
    (rk : ∀ y, IsReal (argK m c y)) :
    (dats m 0 c).arrAt 6 cfg0.N
      = fun y : S2x4096x4096.Idx => gatedAttn (argX m c) (argQ m c) (argK m c) (y 0).val (y 1).val (y 2).val := by
  refine (dats m 0 c).arrAt_eq_of_covers 6 _ (by decide +kernel) fun t hf y => ?_
  blk_simp [index6]
  rw [after0_6]
  unfold outsAt0 out0_A_6
  rw [View.read_writes_junk_eq_canon]
  refine (point_canon c _ _ _ _ _ _ _ _ _ _ _ _ _ _ _ _ _ _ _ _ _ _ _ (real0 m c rx t) (real1 m c rx t) (real4 m c rq t)
    (real5 m c rk t) y).trans ?_
  exact pointOut_eq m c t y

end Cert.KernelIdeal.Fox
-- ==== Proof.FoxRef.lean ====
/-
  What the reference computes: the gated attention of its arguments, entry by entry.
-/
module

public import proofs.«01_k».proof.Proof.Gen.ReferenceIdeal.Read
public import proofs.«01_k».proof.Proof.Attention
public import Idealize.ShloMosaic.Lib.Pointwise
public import Idealize.ShloMosaic.Lib.WordCmp

@[expose] public section

set_option maxRecDepth 65536

noncomputable section

namespace Cert.ReferenceIdeal.Attn

open Cert.ReferenceIdeal Cert.ReferenceIdeal.Gen Cert.ReferenceIdeal.Read Idealize.ShloMosaic Idealize.ShloMosaic.TcCoe Idealize.SL.Sem Cert.Softmax

theorem neg_inf : Ideal.ofBits .f32 0xFF800000#32 = ⊥ := by simp [Ideal.ofBits, Ideal.ieee]

/-- The natural logarithm of the constant two. -/
theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    norm_cast
    norm_num
  rw [this, Ideal.log_coe, if_neg (by norm_num)]

variable (x : FVec Ideal S2x4096x16384 .bf16) (aq ak : FVec Ideal S2x32x4096x128 .bf16)

theorem v6_apply (b : Fin 2) (h : Fin 32) (r : Fin 4096) (d : Fin 128) :
    val_main_v6 (F := Ideal) x (ix4 b h r d) = x (ix3 b r ⟨h.val * 128 + d.val, by omega⟩) := by
  pointwise [val_main_v6, val_main_v5, val_main_v1, val_main_v0]

theorem v8_apply (b : Fin 2) (h : Fin 32) (r : Fin 4096) (d : Fin 128) :
    val_main_v8 (F := Ideal) x (ix4 b h r d) = x (ix3 b r ⟨4096 + (h.val * 128 + d.val), by omega⟩) := by
  pointwise [val_main_v8, val_main_v7, val_main_v2, val_main_v0]

theorem v13_apply (b : Fin 2) (h : Fin 32) (r t : Fin 4096) :
    val_main_v13 (F := Ideal) x aq ak (ix4 b h r t)
      = ∑ d : Fin 128, val_main_v6 (F := Ideal) x (ix4 b h r d) * val_main_v8 (F := Ideal) x (ix4 b h t d)
        + ∑ d : Fin 128, aq (ix4 b h r d) * ak (ix4 b h t d) := by
  pointwise [val_main_v13, val_main_v9, val_main_v12, val_main_v10, val_main_v11]

theorem v24_apply (b : Fin 2) (h : Fin 32) (r t : Fin 4096) :
    val_main_v24 (F := Ideal) x aq ak (ix4 b h r t)
      = if t.val ≤ r.val then val_main_v13 (F := Ideal) x aq ak (ix4 b h r t) * ((Real.log 2 : ℝ) : EReal) else ⊥ := by
  pointwise [val_main_v24, val_main_v16, val_main_v15, val_main_v14, val_main_cst, val_main_call0_v0, val_main_call0_v1, val_main_call0_v2,
    val_main_cst_0, val_main_v23, val_main_v22, val_main_v21, val_main_v20, val_main_v19, val_main_v18, val_main_v17]
  rw [WordCmp.cmpi_sle_ofNat (by omega) (by omega), log_two, show id (constant (F := Ideal) S_ .f32 0xFF800000#32) ix0 = ⊥ from neg_inf]
  by_cases h : t.val ≤ r.val <;> simp [Scalar.select, h]

theorem v35_apply (b : Fin 2) (h : Fin 32) (r t : Fin 4096) :
    val_main_v35 (F := Ideal) x aq ak (ix4 b h r t)
      = Ideal.div (Ideal.exp (val_main_v24 (F := Ideal) x aq ak (ix4 b h r t) - val_main_v27 (F := Ideal) x aq ak (ix3 b h r)))
        (∑ u : Fin 4096, Ideal.exp (val_main_v24 (F := Ideal) x aq ak (ix4 b h r u) - val_main_v27 (F := Ideal) x aq ak (ix3 b h r))) := by
  pointwise [val_main_v35, val_main_v34, val_main_v33, val_main_v32, val_main_v31, val_main_v30, val_main_v29, val_main_v28, val_main_cst_3]

theorem v40_apply (b : Fin 2) (r C : Fin 4096) :
    val_main_v40 (F := Ideal) x aq ak (ix3 b r C)
      = ∑ t : Fin 4096, val_main_v35 (F := Ideal) x aq ak (ix4 b ⟨C.val / 128, by omega⟩ r t) * x (ix3 b t ⟨8192 + C.val, by omega⟩) := by
  pointwise [val_main_v40, val_main_v39, val_main_v38, val_main_v37, val_main_v36, val_main_v3, val_main_v0]

theorem one_bits : Ideal.ofBits .f32 0x3F800000#32 = 1 := by
  simp [Ideal.ofBits, Ideal.ieee]
  norm_cast
  norm_num

theorem v43_apply (b : Fin 2) (r C : Fin 4096) :
    val_main_v43 (F := Ideal) x aq ak (ix3 b r C)
      = val_main_v40 (F := Ideal) x aq ak (ix3 b r C)
        * (x (ix3 b r ⟨12288 + C.val, by omega⟩) * Ideal.logistic (x (ix3 b r ⟨12288 + C.val, by omega⟩))) := by
  rw [val_main_v43_apply, val_main_v42_apply, val_main_v41_apply, val_main_call1_v5_apply, val_main_call1_v4_apply, val_main_call1_v3_apply,
   val_main_call1_v2_apply, val_main_call1_v1_apply, val_main_call1_v0_apply, val_main_v4_apply, val_main_v0_apply, val_main_call1_cst_apply,
   val_main_call1_cst_0_apply]
  have e : idx_main_v4 (ix3 b r C) = ix3 b r ⟨12288 + C.val, by omega⟩ := by
    funext a
    match a with
    | ⟨0, _⟩ => rfl
    | ⟨1, _⟩ => rfl
    | ⟨2, _⟩ => rfl
  rw [e]
  generalize val_main_v40 (F := Ideal) x aq ak (ix3 b r C) = p
  generalize x (ix3 b r ⟨12288 + C.val, by omega⟩) = z
  show p * (z * Ideal.div (Ideal.ofBits .f32 0x3F800000#32) (Ideal.ofBits .f32 0x3F800000#32 + Ideal.exp (-z))) = p * (z * Ideal.logistic z)
  rw [one_bits]
  rfl

theorem exists_ix4 {n0 n1 n2 n3 : ℕ} (i : (⟨4, ![n0, n1, n2, n3]⟩ : Shape).Idx) : ∃ b h r t, i = ix4 b h r t := by
  refine ⟨i 0, i 1, i 2, i 3, ?_⟩
  funext a
  match a with
  | ⟨0, _⟩ => rfl
  | ⟨1, _⟩ => rfl
  | ⟨2, _⟩ => rfl
  | ⟨3, _⟩ => rfl

theorem exists_ix3 {n0 n1 n2 : ℕ} (i : (⟨3, ![n0, n1, n2]⟩ : Shape).Idx) : ∃ b r c, i = ix3 b r c := by
  refine ⟨i 0, i 1, i 2, ?_⟩
  funext a
  match a with
  | ⟨0, _⟩ => rfl
  | ⟨1, _⟩ => rfl
  | ⟨2, _⟩ => rfl

/-- A row's maximum of masked scores is a real, given real scores: the row's first key is always allowed. -/
theorem v27_real (b : Fin 2) (h : Fin 32) (r : Fin 4096)
    (hs : ∀ b h r t, IsReal (val_main_v13 (F := Ideal) x aq ak (ix4 b h r t))) :
    IsReal (val_main_v27 (F := Ideal) x aq ak (ix3 b h r)) := by
  have hi : ∀ i : S2x32x4096x4096.Idx, val_main_v24 (F := Ideal) x aq ak i ≠ ⊤ := by
    intro i
    obtain ⟨b, h, r, t, rfl⟩ := exists_ix4 i
    obtain ⟨s, e⟩ := hs b h r t
    rw [v24_apply, e, ← EReal.coe_mul]
    split_ifs
    · exact EReal.coe_ne_top _
    · exact bot_ne_top
  have h0 : val_main_v24 (F := Ideal) x aq ak (ix4 b h r ⟨0, by decide⟩) ≠ ⊥ := by
    obtain ⟨s, e⟩ := hs b h r ⟨0, by decide⟩
    rw [v24_apply, e, ← EReal.coe_mul, if_pos (Nat.zero_le _)]
    exact EReal.coe_ne_bot _
  have e : val_main_v25 (F := Ideal) x aq ak (ix3 b h r)
      = (Finset.univ.filter fun i => reducesTo_S2x32x4096x4096_S2x32x4096_d3.drop i = ix3 b h r).fold max
        (Ideal.ofBits .f32 0xFF800000#32) (val_main_v24 (F := Ideal) x aq ak) :=
    Host.reduce_eq_fold (α := EReal) max _ _ _ _ _
  have hm : val_main_v27 (F := Ideal) x aq ak (ix3 b h r)
      = (Finset.univ.filter fun i => reducesTo_S2x32x4096x4096_S2x32x4096_d3.drop i = ix3 b h r).fold max
        ⊥ (val_main_v24 (F := Ideal) x aq ak) := by
    rw [val_main_v27_apply, e, val_main_v26_apply, val_main_cst_2_apply, neg_inf]
    show max (Ideal.ofBits .f32 0xFF800000#32) _ = _
    rw [neg_inf, max_bot_left]
  rw [hm]
  refine ⟨_, (EReal.coe_toReal (fold_max_ne_top _ _ hi) (fold_max_ne_bot _ _ (k := ix4 b h r ⟨0, by decide⟩) ?_ h0)).symm⟩
  rw [Finset.mem_filter]
  refine ⟨Finset.mem_univ _, ?_⟩
  funext a
  refine Fin.ext ?_
  match a with
  | ⟨0, _⟩ => exact Shape.ReducesTo.drop_apply_val_of_eq reducesTo_S2x32x4096x4096_S2x32x4096_d3 _ (0 : Fin S2x32x4096.rank) (0 : Fin S2x32x4096x4096.rank)
  | ⟨1, _⟩ => exact Shape.ReducesTo.drop_apply_val_of_eq reducesTo_S2x32x4096x4096_S2x32x4096_d3 _ (1 : Fin S2x32x4096.rank) (1 : Fin S2x32x4096x4096.rank)
  | ⟨2, _⟩ => exact Shape.ReducesTo.drop_apply_val_of_eq reducesTo_S2x32x4096x4096_S2x32x4096_d3 _ (2 : Fin S2x32x4096.rank) (2 : Fin S2x32x4096x4096.rank)

/-- The reference's result is the gated attention of its arguments, given real queries, keys and extra columns. -/
theorem result_eq (rx : ∀ y : S2x4096x16384.Idx, (y 2).val < 8192 → IsReal (x y)) (rq : ∀ y, IsReal (aq y)) (rk : ∀ y, IsReal (ak y)) :
    val_main_v43 (F := Ideal) x aq ak = fun y : S2x4096x4096.Idx => gatedAttn x aq ak (y 0).val (y 1).val (y 2).val := by
  have hs : ∀ b h r t, IsReal (val_main_v13 (F := Ideal) x aq ak (ix4 b h r t)) := by
    intro b h r t
    rw [v13_apply]
    refine (IsReal.sum _ _ fun d => ?_).add (IsReal.sum _ _ fun d => (rq _).mul (rk _))
    rw [v6_apply, v8_apply]
    exact (rx _ (show h.val * 128 + d.val < 8192 by omega)).mul (rx _ (show 4096 + (h.val * 128 + d.val) < 8192 by omega))
  have hq : ∀ b h r t, val_main_v13 (F := Ideal) x aq ak (ix4 b h r t) = scoreS x aq ak b.val h.val r.val t.val := by
    intro b h r t
    rw [v13_apply]
    unfold scoreS
    congr 1
    · refine Finset.sum_congr rfl fun d _ => ?_
      rw [v6_apply, v8_apply, mul_comm, Nat.mul_comm 128]
      exact (congrArg₂ (fun a b : EReal => a * b) (atQ_fin x b t (by omega)) (atQ_fin x b r (by omega))).symm
    · refine Finset.sum_congr rfl fun d _ => ?_
      rw [mul_comm]
      exact (congrArg₂ (fun a b : EReal => a * b) (atE_fin ak b h t d) (atE_fin aq b h r d)).symm
  funext y
  obtain ⟨b, r, C, rfl⟩ := exists_ix3 y
  obtain ⟨M, hM⟩ := v27_real x aq ak b ⟨C.val / 128, by omega⟩ r hs
  have hr : ∀ t, t < 4096 → scoreS x aq ak b.val (C.val / 128) r.val t
      = ((scoreS x aq ak b.val (C.val / 128) r.val t).toReal : EReal) := by
    intro t ht
    have := hs b ⟨C.val / 128, by omega⟩ r ⟨t, ht⟩
    rw [hq] at this
    exact this.coe_toReal.symm
  have hm : ∀ t : Fin 4096, val_main_v24 (F := Ideal) x aq ak (ix4 b ⟨C.val / 128, by omega⟩ r t)
      = if t.val ≤ r.val then ((scoreS x aq ak b.val (C.val / 128) r.val t.val).toReal : EReal) * ((Real.log 2 : ℝ) : EReal) else ⊥ := by
    intro t
    rw [v24_apply, hq, ← hr _ t.isLt]
  rw [v43_apply, v40_apply]
  show _ = gatedAttn x aq ak b.val r.val C.val
  unfold gatedAttn
  rw [← softmax_eq_attn _ _ _ M]
  refine congrArg₂ (fun a b : EReal => a * b) ?_ ?_
  · rw [← Fin.sum_univ_eq_sum_range (n := 4096), ← Fin.sum_univ_eq_sum_range (n := 4096)]
    refine Finset.sum_congr rfl fun t _ => ?_
    rw [v35_apply, hM]
    simp only [hm]
    rw [atQ_fin x b t (show 8192 + C.val < 16384 by omega)]
  · rw [atQ_fin x b r (show 12288 + C.val < 16384 by omega)]

end Cert.ReferenceIdeal.Attn
-- ==== Proof.Finite.lean ====
/-
  What the precondition says: the packed queries and keys and the extra columns are reals.
-/
module

public import proofs.«01_k».proof.Proof.Gen.Pre_finite_scores
public import proofs.«01_k».proof.Proof.Softmax
public import Idealize.ShloMosaic.Lib.ReduceAll
public import Idealize.ShloMosaic.Lib.Affine
public import Idealize.ShloMosaic.Lib.Pointwise

@[expose] public section

noncomputable section

namespace Cert.Pre_finite_scores.Finite

open Cert.Pre_finite_scores Cert.Pre_finite_scores.Facts Idealize.ShloMosaic Cert.Softmax

instance : Subsingleton S_.Idx := ⟨fun a b => funext fun i => i.elim0⟩

/-- An extended real whose absolute value compares below infinity is a real. -/
theorem isReal_of_abs_lt (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

variable [Facts]

/-- The precondition makes the packed queries and keys (the first 8192 columns) and both arrays of extra columns real. -/
theorem real_of_fn (x : FVec Ideal S2x4096x16384 .bf16) (aq ak : FVec Ideal S2x32x4096x128 .bf16)
    (h : fn (F := Ideal) x aq ak = fun _ => 1#1) :
    (∀ y : S2x4096x16384.Idx, (y 2).val < 8192 → IsReal (x y)) ∧ (∀ y, IsReal (aq y)) ∧ (∀ y, IsReal (ak y)) := by
  have h0 := congrFun h ix0
  obtain ⟨h1, hk⟩ := IntOp.andi_eq_one.1 h0
  obtain ⟨hx, hq⟩ := IntOp.andi_eq_one.1 h1
  refine ⟨fun y hy => ?_, fun y => ?_, fun y => ?_⟩
  · have := Host.reduce_andi_all _ _ _ _ _ hx (ix3 ⟨(y 0).val, (y 0).isLt⟩ ⟨(y 1).val, (y 1).isLt⟩ ⟨(y 2).val, hy⟩)
    have e : extractStridedSlice S2x4096x8192 ![0, 0, 0] x slices_S2x4096x16384_S2x4096x8192_0_0_0
        (ix3 ⟨(y 0).val, (y 0).isLt⟩ ⟨(y 1).val, (y 1).isLt⟩ ⟨(y 2).val, hy⟩) = x y := by
      pointwise []
    rw [← e]
    exact isReal_of_abs_lt _ this
  · exact isReal_of_abs_lt _ (Host.reduce_andi_all _ _ _ _ _ hq y)
  · exact isReal_of_abs_lt _ (Host.reduce_andi_all _ _ _ _ _ hk y)

end Cert.Pre_finite_scores.Finite
-- ==== Proof.Dense.lean ====
/-
  Reading the arrays of the dense layers entry by entry, and the exact arithmetic their scalings need.
-/
module

public import Idealize.ShloMosaic.Lib.Pipeline.Value
public import Idealize.ShloMosaic.Lib.Pointwise
public import Idealize.ShloMosaic.PureOps.Ideal.Laws

@[expose] public section

set_option maxRecDepth 65536

noncomputable section

namespace Cert.Dense

open Idealize.ShloMosaic

/-- The entry of a matrix at row `r` and column `c`. -/
def at2 {n0 n1 : ℕ} [NeZero n0] [NeZero n1] (x : (⟨2, ![n0, n1]⟩ : Shape).Idx → EReal) (r c : ℕ) : EReal :=
  x (ix2 (Fin.ofNat n0 r) (Fin.ofNat n1 c))

/-- The entry of a batch of matrices at batch `b`, row `r` and column `c`. -/
def at3 {n0 n1 n2 : ℕ} [NeZero n0] [NeZero n1] [NeZero n2] (x : (⟨3, ![n0, n1, n2]⟩ : Shape).Idx → EReal) (b r c : ℕ) : EReal :=
  x (ix3 (Fin.ofNat n0 b) (Fin.ofNat n1 r) (Fin.ofNat n2 c))

theorem ofNat_val {n : ℕ} [NeZero n] (a : Fin n) : Fin.ofNat n a.val = a := by
  ext
  exact Nat.mod_eq_of_lt a.isLt

theorem at2_val {n0 n1 : ℕ} [NeZero n0] [NeZero n1] (x : (⟨2, ![n0, n1]⟩ : Shape).Idx → EReal) (r : Fin n0) (c : Fin n1) :
    at2 x r.val c.val = x (ix2 r c) := by
  unfold at2
  rw [ofNat_val, ofNat_val]

theorem at3_val {n0 n1 n2 : ℕ} [NeZero n0] [NeZero n1] [NeZero n2] (x : (⟨3, ![n0, n1, n2]⟩ : Shape).Idx → EReal) (b : Fin n0)
    (r : Fin n1) (c : Fin n2) : at3 x b.val r.val c.val = x (ix3 b r c) := by
  unfold at3
  rw [ofNat_val, ofNat_val, ofNat_val]

theorem at2_fin {n0 n1 : ℕ} [NeZero n0] [NeZero n1] (x : (⟨2, ![n0, n1]⟩ : Shape).Idx → EReal) {r c : ℕ} (hr : r < n0) (hc : c < n1) :
    at2 x r c = x (ix2 ⟨r, hr⟩ ⟨c, hc⟩) := at2_val x ⟨r, hr⟩ ⟨c, hc⟩

theorem at3_fin {n0 n1 n2 : ℕ} [NeZero n0] [NeZero n1] [NeZero n2] (x : (⟨3, ![n0, n1, n2]⟩ : Shape).Idx → EReal) {b r c : ℕ}
    (hb : b < n0) (hr : r < n1) (hc : c < n2) : at3 x b r c = x (ix3 ⟨b, hb⟩ ⟨r, hr⟩ ⟨c, hc⟩) := at3_val x ⟨b, hb⟩ ⟨r, hr⟩ ⟨c, hc⟩

theorem exists_ix2 {n0 n1 : ℕ} (i : (⟨2, ![n0, n1]⟩ : Shape).Idx) : ∃ r c, i = ix2 r c := by
  refine ⟨i 0, i 1, ?_⟩
  funext a
  match a with
  | ⟨0, _⟩ => rfl
  | ⟨1, _⟩ => rfl

theorem exists_ix3 {n0 n1 n2 : ℕ} (i : (⟨3, ![n0, n1, n2]⟩ : Shape).Idx) : ∃ b r c, i = ix3 b r c := by
  refine ⟨i 0, i 1, i 2, ?_⟩
  funext a
  match a with
  | ⟨0, _⟩ => rfl
  | ⟨1, _⟩ => rfl
  | ⟨2, _⟩ => rfl

theorem zero_off : (![0, 0] : Fin 2 → ℕ) = fun _ => 0 := by
  funext a
  fin_cases a <;> rfl

theorem zero_off3 : (![0, 0, 0] : Fin 3 → ℕ) = fun _ => 0 := by
  funext a
  fin_cases a <;> rfl

/-- The entry of the flattened activations at token `r`, both sequences in one column of rows. -/
def flat (x : (⟨3, ![2, 4096, 4096]⟩ : Shape).Idx → EReal) (r c : ℕ) : EReal := at3 x (r / 4096) (r % 4096) c

/-- A reshape of two sequences to one matrix of rows reads the flattened entry. -/
theorem reshape_flat (x : (⟨3, ![2, 4096, 4096]⟩ : Shape).Idx → EReal)
    (h : (⟨3, ![2, 4096, 4096]⟩ : Shape).ShapeCasts ⟨2, ![8192, 4096]⟩) (r : Fin 8192) (c : Fin 4096) :
    shapeCast (α := EReal) ⟨2, ![8192, 4096]⟩ x h (ix2 r c) = flat x r.val c.val := by
  have h0 := r.isLt
  have h1 := c.isLt
  unfold flat
  rw [at3_fin x (by omega) (Nat.mod_lt _ (by norm_num)) h1]
  refine shapeCast_apply x h _ _ ?_
  rw [Shape.rowMajor_val_three, Shape.rowMajor_val_two]
  show (r.val / 4096 * 4096 + r.val % 4096) * 4096 + c.val = r.val * 4096 + c.val
  omega

/-! ## Scalings -/

/-- A nonnegative real factor distributes over any sum of two extended reals. -/
theorem add_mul_coe {c : ℝ} (hc : 0 ≤ c) (a b : EReal) : (a + b) * (c : EReal) = a * (c : EReal) + b * (c : EReal) := by
  rw [mul_comm, mul_comm a, mul_comm b]
  exact EReal.left_distrib_of_nonneg_of_ne_top (EReal.coe_nonneg.mpr hc) (EReal.coe_ne_top c) a b

theorem sqrt_128 : Ideal.sqrt (Ideal.ofBits .f32 0x43000000#32) = ((Real.sqrt 128 : ℝ) : EReal) := by
  have : Ideal.ofBits .f32 0x43000000#32 = ((128 : ℝ) : EReal) := by
    simp [Ideal.ofBits, Ideal.ieee]
    norm_cast
    norm_num
  rw [this, Ideal.sqrt_coe, if_neg (by norm_num)]

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    norm_cast
    norm_num
  rw [this, Ideal.log_coe, if_neg (by norm_num)]

theorem one_bits : Ideal.ofBits .f32 0x3F800000#32 = 1 := by
  simp [Ideal.ofBits, Ideal.ieee]
  norm_cast
  norm_num

/-- Dividing by the root of 128 and then by the logarithm of 2 is one multiplication by the product of their inverses. -/
theorem scale_eq (x : EReal) :
    Ideal.div (Ideal.div x ((Real.sqrt 128 : ℝ) : EReal)) ((Real.log 2 : ℝ) : EReal)
      = x * (((Real.sqrt 128)⁻¹ * (Real.log 2)⁻¹ : ℝ) : EReal) := by
  rw [Ideal.div_coe (Real.log_pos (by norm_num)).ne', Ideal.div_coe (Real.sqrt_pos.mpr (by norm_num)).ne', one_div, one_div,
    mul_assoc, ← EReal.coe_mul]

/-- Splitting the columns into heads of 128 reads the head's column. -/
theorem heads_apply {n k : ℕ} [NeZero n] (hk : 128 * k = n) (x : (⟨3, ![2, 4096, n]⟩ : Shape).Idx → EReal)
    (h : (⟨3, ![2, 4096, n]⟩ : Shape).ShapeCasts ⟨4, ![2, 4096, k, 128]⟩) (b : Fin 2) (t : Fin 4096) (g : Fin k) (d : Fin 128) :
    shapeCast (α := EReal) ⟨4, ![2, 4096, k, 128]⟩ x h (ix4 b t g d) = at3 x b.val t.val (128 * g.val + d.val) := by
  have hg := g.isLt
  have hd := d.isLt
  rw [at3_fin x b.isLt t.isLt (show 128 * g.val + d.val < n by omega)]
  refine shapeCast_apply x h _ _ ?_
  rw [Shape.rowMajor_val_three, Shape.rowMajor_val_four]
  show (b.val * 4096 + t.val) * n + (128 * g.val + d.val) = ((b.val * 4096 + t.val) * k + g.val) * 128 + d.val
  rw [← hk]
  ring

/-- Joining the heads again reads column `c` in its head. -/
theorem unheads_apply {n k : ℕ} (hk : 128 * k = n) (x : (⟨4, ![2, 4096, k, 128]⟩ : Shape).Idx → EReal)
    (h : (⟨4, ![2, 4096, k, 128]⟩ : Shape).ShapeCasts ⟨3, ![2, 4096, n]⟩) (b : Fin 2) (t : Fin 4096) (c : Fin n)
    (hg : c.val / 128 < k) : shapeCast (α := EReal) ⟨3, ![2, 4096, n]⟩ x h (ix3 b t c)
      = x (ix4 b t ⟨c.val / 128, hg⟩ ⟨c.val % 128, Nat.mod_lt _ (by norm_num)⟩) := by
  subst hk
  refine shapeCast_apply x h _ _ ?_
  rw [Shape.rowMajor_val_three, Shape.rowMajor_val_four]
  show ((b.val * 4096 + t.val) * k + c.val / 128) * 128 + c.val % 128 = (b.val * 4096 + t.val) * (128 * k) + c.val
  rw [add_mul, add_assoc, show c.val / 128 * 128 + c.val % 128 = c.val by omega]
  ring

/-- A reshape of two sequences of rows to one matrix reads the same entry. -/
theorem rows_apply {n : ℕ} [NeZero n] (x : (⟨3, ![2, 4096, n]⟩ : Shape).Idx → EReal)
    (h : (⟨3, ![2, 4096, n]⟩ : Shape).ShapeCasts ⟨2, ![8192, n]⟩) (r : Fin 8192) (c : Fin n) :
    shapeCast (α := EReal) ⟨2, ![8192, n]⟩ x h (ix2 r c) = at3 x (r.val / 4096) (r.val % 4096) c.val := by
  have h0 := r.isLt
  rw [at3_fin x (by omega) (Nat.mod_lt _ (by norm_num)) c.isLt]
  refine shapeCast_apply x h _ _ ?_
  rw [Shape.rowMajor_val_three, Shape.rowMajor_val_two]
  show (r.val / 4096 * 4096 + r.val % 4096) * n + c.val = r.val * n + c.val
  rw [show r.val / 4096 * 4096 + r.val % 4096 = r.val by omega]

/-- A reshape of one matrix of rows to two sequences reads the same entry. -/
theorem unrows_apply {n : ℕ} [NeZero n] (x : (⟨2, ![8192, n]⟩ : Shape).Idx → EReal)
    (h : (⟨2, ![8192, n]⟩ : Shape).ShapeCasts ⟨3, ![2, 4096, n]⟩) (b : Fin 2) (t : Fin 4096) (c : Fin n) :
    shapeCast (α := EReal) ⟨3, ![2, 4096, n]⟩ x h (ix3 b t c) = at2 x (b.val * 4096 + t.val) c.val := by
  rw [at2_fin x (by omega) c.isLt]
  refine shapeCast_apply x h _ _ ?_
  rw [Shape.rowMajor_val_three, Shape.rowMajor_val_two]
  rfl

end Cert.Dense
-- ==== Proof.Qkvz.lean ====
/-
  The first projection, to queries, keys, values and gates: what one block computes, and what the kernel's result array
  holds. The query columns carry the attention's scale.
-/
module

public import proofs.«01_k».proof.Proof.Gen.Kernel2Ideal.Value
public import proofs.«01_k».proof.Proof.Dense
public import Idealize.ShloMosaic.Lib.Pointwise
public import Idealize.ShloMosaic.Lib.WordCmp
public import Idealize.ShloMosaic.Lib.Pipeline.ValueKit

@[expose] public section

set_option maxRecDepth 65536

noncomputable section

namespace Cert.Kernel2Ideal.Qkvz

open Cert.Kernel2Ideal Cert.Kernel2Ideal.Gen Idealize.ShloMosaic Idealize.ShloMosaic.TcCoe Idealize.SL.Sem Cert.Dense

/-- The attention's scale, in base two: `1 / (√128 · log 2)`. -/
abbrev smScale : EReal := (((Real.sqrt 128)⁻¹ * (Real.log 2)⁻¹ : ℝ) : EReal)

theorem named_scale : Named.named (F := Ideal) Cert.Kernel2Ideal.κ "sm_scale" (φ := .f32) 0x3E0293EE#32 = smScale :=
  IdealRules.named_const.ideal_named_scalar _ _ _ _ rfl

/-- The projection at token `r` and output column `c`. -/
def qkvz (x : S2x4096x4096.Idx → EReal) (w : S16384x4096.Idx → EReal) (r c : ℕ) : EReal :=
  (∑ k : Fin 4096, flat x r k.val * at2 w c k.val) * if c < 4096 then smScale else 1

/-- One block of the projection: the scale on the grid's first four columns of blocks. -/
theorem block_apply (i : grid0.Coords) (x : FVec Ideal S1024x4096 .bf16) (w : FVec Ideal S1024x4096 .bf16) (r c : Fin 1024) :
    k0_pay1 (F := Ideal) i x w (ix2 r c)
      = (∑ k : Fin 4096, x (ix2 r k) * w (ix2 c k)) * if (i 1).val < 4 then smScale else 1 := by
  have hi : (i 1).val < 16 := (i 1).isLt
  pointwise [k0_pay1]
  generalize (i 1).val = j at hi
  show _ * Scalar.select (IntOp.cmpi .slt (BitVec.ofNat 32 j) (BitVec.ofNat 32 4)) _ _ = _
  rw [WordCmp.cmpi_slt_ofNat (by omega) (by omega)]
  by_cases h : j < 4 <;> simp [Scalar.select, h, named_scale, one_bits]

theorem index0 : ∀ t : Fin cfg0.N, win0_0.index t = ![(grid0.coords t 0).val, 0] :=
  (by decide +kernel : ∀ t : Fin grid0.N, _)
theorem index1 : ∀ t : Fin cfg0.N, win0_1.index t = ![(grid0.coords t 1).val, 0] :=
  (by decide +kernel : ∀ t : Fin grid0.N, _)
theorem index2 : ∀ t : Fin cfg0.N, win0_2.index t = ![(grid0.coords t 0).val, (grid0.coords t 1).val] :=
  (by decide +kernel : ∀ t : Fin grid0.N, _)

variable (m : (ℓ : Loc nD τ sig) → Buf (Elt Ideal) ℓ)

/-- The activations. -/
abbrev argX (c : Dev nD) : S2x4096x4096.Idx → EReal := m ((c : Thread nD τ).loc main_arg0)
/-- The weight, a row for each output column. -/
abbrev argW (c : Dev nD) : S16384x4096.Idx → EReal := m ((c : Thread nD τ).loc main_arg1)

/-- The region finds the flattened activations in its first operand. -/
theorem V_v0 (c : Dev nD) : V m c main_v0 = shapeCast S8192x4096 (argX m c) shapeCasts_S2x4096x4096_S8192x4096 := by
  unfold V
  after_results_simp
  rfl

theorem coord0_lt (t : Fin cfg0.N) : (grid0.coords t 0).val < 8 := (grid0.coords t 0).isLt
theorem coord1_lt (t : Fin cfg0.N) : (grid0.coords t 1).val < 16 := (grid0.coords t 1).isLt

theorem block0 (c : Dev nD) (t : Fin cfg0.N) (r : Fin 1024) (k : Fin 4096) :
    iblk m c 0 t (ix2 r k) = flat (argX m c) ((grid0.coords t 0).val * 1024 + r.val) k.val := by
  have := coord0_lt t
  have h : iblk m c 0 t (ix2 r k) = V m c main_v0 (ix2 ⟨(grid0.coords t 0).val * 1024 + r.val, by omega⟩ k) := by
    blk_simp [iblk]
    congr 1
    blk_ext [index0]
  rw [h, V_v0]
  exact reshape_flat _ _ _ _

theorem block1 (c : Dev nD) (t : Fin cfg0.N) (r : Fin 1024) (k : Fin 4096) :
    iblk m c 1 t (ix2 r k) = at2 (argW m c) ((grid0.coords t 1).val * 1024 + r.val) k.val := by
  have := coord1_lt t
  rw [at2_fin (argW m c) (show (grid0.coords t 1).val * 1024 + r.val < 16384 by omega) k.isLt]
  blk_simp [iblk]
  rw [V_main_arg1]
  congr 1
  blk_ext [index1]

/-- The result array is the projection. -/
theorem array_eq (c : Dev nD) :
    (dats m 0 c).arrAt 2 cfg0.N = fun y : S8192x16384.Idx => qkvz (argX m c) (argW m c) (y 0).val (y 1).val := by
  refine (dats m 0 c).arrAt_eq_of_covers 2 _ (by decide +kernel) fun t hf y => ?_
  blk_simp [index2]
  rw [after0_2]
  unfold out0_2
  rw [View.canon_unit_zero zero_off, View.ld_unit_zero zero_off, View.ld_unit_zero zero_off]
  obtain ⟨r, j, rfl⟩ := exists_ix2 y
  rw [block_apply]
  simp only [block0, block1]
  have h4 : ((grid0.coords t 1).val < 4) ↔ ((grid0.coords t 1).val * 1024 + j.val < 4096) := by omega
  simp only [h4]
  rfl

end Cert.Kernel2Ideal.Qkvz
-- ==== Proof.QkvzRef.lean ====
/-
  What the reference of the first projection computes: the kernel's projection, entry by entry.
-/
module

public import proofs.«01_k».proof.Proof.Gen.Reference2Ideal.Read
public import proofs.«01_k».proof.Proof.Qkvz

@[expose] public section

set_option maxRecDepth 65536

noncomputable section

namespace Cert.Reference2Ideal.Qkvz

open Cert.Reference2Ideal Cert.Reference2Ideal.Gen Cert.Reference2Ideal.Read Idealize.ShloMosaic Idealize.ShloMosaic.TcCoe
open Idealize.SL.Sem Cert.Dense Cert.Kernel2Ideal.Qkvz

variable (x : FVec Ideal S2x4096x4096 .bf16) (w : FVec Ideal S16384x4096 .bf16)

theorem dot_apply (r : Fin 8192) (c : Fin 16384) :
    val_main_v4 (F := Ideal) x w (ix2 r c) = ∑ k : Fin 4096, flat x r.val k.val * at2 w c.val k.val := by
  have e : val_main_v4 (F := Ideal) x w (ix2 r c) = ∑ k : Fin 4096, val_main_v0 (F := Ideal) x (ix2 r k) * w (ix2 c k) := by
    pointwise [val_main_v4, val_main_v1, val_main_v3, val_main_v2]
  rw [e]
  refine Finset.sum_congr rfl fun k _ => ?_
  exact congrArg₂ (fun a b : EReal => a * b) (reshape_flat x _ r k) (at2_val w c k).symm

theorem lead_apply (r : Fin 8192) (c : Fin 4096) :
    val_main_v12 (F := Ideal) x w (ix2 r c)
      = Ideal.div (Ideal.div (val_main_v4 (F := Ideal) x w (ix2 r ⟨c.val, by omega⟩)) (Ideal.sqrt (Ideal.ofBits .f32 0x43000000#32)))
        (Ideal.log (Ideal.ofBits .f32 0x40000000#32)) := by
  pointwise [val_main_v12, val_main_v11, val_main_v10, val_main_v9, val_main_v8, val_main_v7, val_main_v5, val_main_cst, val_main_cst_0]

theorem join_apply (r : Fin 8192) (c : Fin 16384) :
    val_main_v14 (F := Ideal) x w (ix2 r c)
      = if h : c.val < 4096 then val_main_v12 (F := Ideal) x w (ix2 r ⟨c.val, h⟩) else val_main_v4 (F := Ideal) x w (ix2 r c) := by
  pointwise [val_main_v14, val_main_v13, val_main_v6]
  by_cases h : c.val < 4096
  · simp only [h, dif_pos]
  · simp only [h, dif_neg, not_false_iff]
    exact congrArg _ (congrArg (ix2 r) (Fin.ext (by show 4096 + (c.val - 4096) = c.val; omega)))

/-- The reference's result is the projection. -/
theorem result_eq : val_main_v14 (F := Ideal) x w = fun y : S8192x16384.Idx => qkvz x w (y 0).val (y 1).val := by
  funext y
  obtain ⟨r, c, rfl⟩ := exists_ix2 y
  rw [join_apply]
  show _ = qkvz x w r.val c.val
  unfold qkvz
  split_ifs with h
  · rw [lead_apply, sqrt_128, log_two, scale_eq, dot_apply]
  · rw [dot_apply, mul_one]

end Cert.Reference2Ideal.Qkvz
-- ==== Proof.Rope.lean ====
/-
  The rotary embedding of a projection's leading columns: its specification, and one 128-column tile of it as the
  kernels compute it, the columns and their halves swapped against the two tables.
-/
module

public import proofs.«01_k».proof.Proof.Dense
public import Idealize.ShloMosaic.Lib.Pipeline.ValueKit

@[expose] public section

set_option maxRecDepth 65536

noncomputable section

namespace Cert.Dense

open Idealize.ShloMosaic

/-- The product of the flattened activations with a weight at token `r` and output column `c`. -/
def prod {n : ℕ} [NeZero n] (x : (⟨3, ![2, 4096, 4096]⟩ : Shape).Idx → EReal) (w : (⟨2, ![4096, n]⟩ : Shape).Idx → EReal) (r c : ℕ) : EReal :=
  ∑ k : Fin 4096, flat x r k.val * at2 w k.val c

/-- The column whose entry the rotation pairs with column `c`: the other half of the same head. -/
def swap (c : ℕ) : ℕ := 128 * (c / 128) + (c % 128 + 64) % 128

/-- A row `p` turned by the tables' row `t`, at column `c`. -/
def turn {n : ℕ} [NeZero n] (p : ℕ → EReal) (cs sn : (⟨2, ![n, 128]⟩ : Shape).Idx → EReal) (t c : ℕ) : EReal :=
  p c * at2 cs t (c % 128) + p (swap c) * at2 sn t (c % 128)

/-- Turning by scaled tables is scaling the turned row, for a nonnegative real scale. -/
theorem turn_scaled {s : ℝ} (hs : 0 ≤ s) (a b p q : EReal) :
    p * (a * (s : EReal)) + q * (b * (s : EReal)) = (p * a + q * b) * (s : EReal) := by
  rw [add_mul_coe hs, mul_assoc, mul_assoc]

/-- The attention's scale as a 32-bit literal is a nonnegative real. -/
theorem scale_bits : ∃ s : ℝ, 0 ≤ s ∧ Ideal.ofBits .f32 0x3E0293EE#32 = (s : EReal) := by
  refine ⟨_, ?_, by simp [Ideal.ofBits, Ideal.ieee]; norm_cast⟩
  positivity

/-- One tile of 128 columns, from column `o` on: the columns by the first table, their halves swapped by the second. -/
def ropeTile {n : ℕ} (p : FVec Ideal ⟨2, ![1024, n]⟩ .f32) (o : ℕ) (h : (⟨2, ![1024, n]⟩ : Shape).Slices ![0, o] ⟨2, ![1024, 128]⟩)
    (hr : (⟨2, ![1024, 128]⟩ : Shape).Rotates 1 none) (hb : FTy.bits .bf16 < FTy.bits .f32) (cs sn : FVec Ideal ⟨2, ![1024, 128]⟩ .f32) :
    FVec Ideal ⟨2, ![1024, 128]⟩ .bf16 :=
  truncf .bf16 (addf (mulf (extractStridedSlice ⟨2, ![1024, 128]⟩ ![0, o] p h) cs)
    (mulf (dynamicRotate 1 64#32 none (extractStridedSlice ⟨2, ![1024, 128]⟩ ![0, o] p h) hr) sn)) hb

theorem ropeTile_apply {n : ℕ} [NeZero n] (p : FVec Ideal ⟨2, ![1024, n]⟩ .f32) (g : ℕ) (hg : 128 * g + 128 ≤ n) (h hr hb)
    (cs sn : FVec Ideal ⟨2, ![1024, 128]⟩ .f32) (r : Fin 1024) (d : Fin 128) :
    ropeTile p (128 * g) h hr hb cs sn (ix2 r d) = turn (fun c => at2 p r.val c) cs sn r.val (128 * g + d.val) := by
  unfold turn swap
  rw [show (128 * g + d.val) % 128 = d.val by omega, show (128 * g + d.val) / 128 = g by omega]
  have h64 : (d.val + 64) % 128 < 128 := Nat.mod_lt _ (by norm_num)
  dsimp only
  rw [at2_fin p r.isLt (show 128 * g + d.val < n by omega), at2_fin p r.isLt (show 128 * g + (d.val + 64) % 128 < n by omega),
    at2_val cs, at2_val sn]
  pointwise [ropeTile]
  refine congrArg₂ (fun a b : EReal => a + b) (congrArg (fun a : EReal => a * cs (ix2 r d)) (congrArg p ?_))
    (congrArg (fun a : EReal => a * sn (ix2 r d)) (congrArg p ?_))
  · funext a
    refine Fin.ext ?_
    match a with
    | ⟨0, _⟩ => show 0 + r.val = r.val; omega
    | ⟨1, _⟩ => rfl
  · funext a
    refine Fin.ext ?_
    match a with
    | ⟨0, _⟩ => show 0 + r.val = r.val; omega
    | ⟨1, _⟩ => show 128 * g + (d.val + 128 - 64) % 128 = 128 * g + (d.val + 64) % 128; omega

/-- The store of tile `g` into a block of `k` tiles. -/
def ropePiece {n k : ℕ} (hk : 128 * k = n) (p : FVec Ideal ⟨2, ![1024, n]⟩ .f32) (hr : (⟨2, ![1024, 128]⟩ : Shape).Rotates 1 none)
    (hb : FTy.bits .bf16 < FTy.bits .f32) (cs sn : FVec Ideal ⟨2, ![1024, 128]⟩ .f32) (g : Fin k) :
    View.Piece (Elt Ideal) ⟨2, ![1024, n]⟩ .bf16 :=
  have inb : ∀ a : Fin 2, (![0, 128 * g.val] : Fin 2 → ℕ) a + (![1024, 128] : Fin 2 → ℕ) a ≤ (![1024, n] : Fin 2 → ℕ) a := by
    intro a
    have := g.isLt
    match a with
    | ⟨0, _⟩ => show 0 + 1024 ≤ 1024; omega
    | ⟨1, _⟩ => show 128 * g.val + 128 ≤ n; omega
  ⟨Rect.unit (s := ⟨2, ![1024, n]⟩) ![0, 128 * g.val] ![1024, 128] inb, ropeTile p (128 * g.val) ⟨rfl, inb⟩ hr hb cs sn⟩

/-- A block stored tile by tile holds, entry by entry, its rows turned by the tables. -/
theorem ropePieces_canon {n k : ℕ} [NeZero n] (hk : 128 * k = n) (p : FVec Ideal ⟨2, ![1024, n]⟩ .f32) (hr hb)
    (cs sn : FVec Ideal ⟨2, ![1024, 128]⟩ .f32) (L : List (Fin k)) (hL : ∀ g, g ∈ L) (r : Fin 1024) (c : Fin n) :
    View.canon (Val := Elt Ideal) (L.map (ropePiece hk p hr hb cs sn)) (ix2 r c) = turn (fun c => at2 p r.val c) cs sn r.val c.val := by
  refine View.canon_apply_of_pieces (Val := Elt Ideal) (e := .bf16)
    (fun z : (⟨2, ![1024, n]⟩ : Shape).Idx => turn (fun c => at2 p (z 0).val c) cs sn (z 0).val (z 1).val) _ ?_ (ix2 r c) ?_
  · intro q hq
    obtain ⟨g, -, rfl⟩ := List.mem_map.mp hq
    intro x
    have := g.isLt
    obtain ⟨r, d, rfl⟩ : ∃ (r : Fin 1024) (d : Fin 128), x = ix2 r d := exists_ix2 x
    refine (ropeTile_apply p g.val (by omega) _ hr hb cs sn r d).trans ?_
    show _ = turn (fun c => at2 p (0 + 1 * r.val) c) cs sn (0 + 1 * r.val) (128 * g.val + 1 * d.val)
    rw [show 0 + 1 * r.val = r.val by omega, one_mul]
  · have := c.isLt
    have := r.isLt
    refine ⟨_, List.mem_map.mpr ⟨⟨c.val / 128, by omega⟩, hL _, rfl⟩, ?_⟩
    unfold ropePiece
    rw [Rect.mem_set_unit]
    intro a
    match a with
    | ⟨0, _⟩ => show 0 ≤ r.val ∧ r.val < 0 + 1024; omega
    | ⟨1, _⟩ => show 128 * (c.val / 128) ≤ c.val ∧ c.val < 128 * (c.val / 128) + 128; omega

end Cert.Dense
-- ==== Proof.Qz.lean ====
/-
  The second layer's projection, to queries and gates: what one block computes, and what the kernel's result array holds.
  The query columns are turned by the rotary tables, which carry the attention's scale.
-/
module

public import proofs.«01_k».proof.Proof.Gen.Kernel3Ideal.Value
public import proofs.«01_k».proof.Proof.Rope
public import Idealize.ShloMosaic.Lib.Tactic

@[expose] public section

set_option maxRecDepth 65536

noncomputable section

namespace Cert.Kernel3Ideal.Qz

open Cert.Kernel3Ideal Cert.Kernel3Ideal.Gen Idealize.ShloMosaic Idealize.ShloMosaic.TcCoe Idealize.SL.Sem Cert.Dense

/-- The projection at token `r` and output column `c`: the first 4096 columns turned and scaled. -/
def qz (x : S2x4096x4096.Idx → EReal) (w : S4096x8192.Idx → EReal) (cs sn : S4096x128.Idx → EReal) (r c : ℕ) : EReal :=
  if c < 4096 then turn (prod x w r) cs sn (r % 4096) c * Ideal.ofBits .f32 0x3E0293EE#32 else prod x w r c

/-! ## One block -/

theorem dot_apply (x : FVec Ideal S1024x4096 .bf16) (w : FVec Ideal S4096x1024 .bf16) (r c : Fin 1024) :
    k0_pay1 (F := Ideal) x w (ix2 r c) = ∑ k : Fin 4096, x (ix2 r k) * w (ix2 k c) := by
  pointwise [k0_pay1]

theorem table_eq (t : FVec Ideal S1024x128 .f32) : k0_pay6 (F := Ideal) t = t := by
  funext y
  obtain ⟨r, d, rfl⟩ := exists_ix2 y
  pointwise [k0_pay6]

theorem table_eq' (t : FVec Ideal S1024x128 .f32) : k0_pay7 (F := Ideal) t = t := by
  funext y
  obtain ⟨r, d, rfl⟩ := exists_ix2 y
  pointwise [k0_pay7]

section Point

variable (c : Dev nD) (i : grid0.Coords) (a2 : Memref sig .tc .vmem S1024x4096 .bf16) (h2 : a2.IsWhole)
  (a3 : Memref sig .tc .vmem S4096x1024 .bf16) (h3 : a3.IsWhole) (a4 : Memref sig .tc .vmem S1024x128 .f32) (h4 : a4.IsWhole)
  (a5 : Memref sig .tc .vmem S1024x128 .f32) (h5 : a5.IsWhole) (a6 : Memref sig .tc .vmem S1024x1024 .bf16) (h6 : a6.IsWhole)
  (x0 : Vec Ideal S1024x4096 .bf16) (x1 : Vec Ideal S4096x1024 .bf16) (x2 x3 : Vec Ideal S1024x128 .f32)

/-- A point's block of activations, as loaded. -/
abbrev ldX : Vec Ideal S1024x4096 .bf16 := View.readAt (Elt Ideal) a2.view
  (Rect.unit (s := S1024x4096) ![0, 0] S1024x4096.size inb_S1024x4096_S1024x4096_0_0).toLoadRect (h2.unread x0)
/-- Its block of the weight. -/
abbrev ldW : Vec Ideal S4096x1024 .bf16 := View.readAt (Elt Ideal) a3.view
  (Rect.unit (s := S4096x1024) ![0, 0] S4096x1024.size inb_S4096x1024_S4096x1024_0_0).toLoadRect (h3.unread x1)
/-- A block of a table. -/
abbrev ldT : Vec Ideal S1024x128 .f32 := View.readAt (Elt Ideal) a4.view
  (Rect.unit (s := S1024x128) ![0, 0] S1024x128.size inb_S1024x128_S1024x128_0_0).toLoadRect (h4.unread x2)

theorem ldX_eq : ldX a2 h2 x0 = x0 := by
  unfold ldX
  rw [View.readAt_eq_ld, h2.read_unread, View.ld_unit_zero zero_off]
theorem ldW_eq : ldW a3 h3 x1 = x1 := by
  unfold ldW
  rw [View.readAt_eq_ld, h3.read_unread, View.ld_unit_zero zero_off]
theorem ldT_eq : ldT a4 h4 x2 = x2 := by
  unfold ldT
  rw [View.readAt_eq_ld, h4.read_unread, View.ld_unit_zero zero_off]

/-- The stores of a point among the query columns, the last first: eight turned tiles. -/
theorem pieces_turned (hc0 hc1) : (kernelRun0_A (F := Ideal) c i a2 h2 a3 h3 a4 h4 a5 h5 a6 h6 hc0 hc1 x0 x1 x2 x3).1
    = ([7, 6, 5, 4, 3, 2, 1, 0] : List (Fin 8)).map (ropePiece (n := 1024) (k := 8) rfl
        (k0_pay1 (F := Ideal) (ldX a2 h2 x0) (ldW a3 h3 x1)) rotates_S1024x128_d1 bitsLt_bf16_f32
        (k0_pay6 (F := Ideal) (ldT a4 h4 x2)) (k0_pay7 (F := Ideal) (ldT a5 h5 x3))) := by
  unfold kernelRun0_A
  dsimp only
  rfl

/-- The store of a point among the gate columns: the product. -/
theorem pieces_plain (hc0 hc1) : (kernelRun0_B (F := Ideal) c i a2 h2 a3 h3 a4 h4 a5 h5 a6 h6 hc0 hc1 x0 x1 x2 x3).1
    = [⟨Rect.unit (s := S1024x1024) ![0, 0] S1024x1024.size inb_S1024x1024_S1024x1024_0_0,
        k0_pay5 (F := Ideal) (ldX a2 h2 x0) (ldW a3 h3 x1)⟩] := by
  unfold kernelRun0_B
  dsimp only

theorem turned_apply (hc0 hc1) (r d : Fin 1024) :
    out0_A_4 (F := Ideal) c i a2 h2 a3 h3 a4 h4 a5 h5 a6 h6 hc0 hc1 x0 x1 x2 x3 (ix2 r d)
      = turn (fun d => at2 (k0_pay1 (F := Ideal) x0 x1) r.val d) x2 x3 r.val d.val := by
  unfold out0_A_4
  rw [View.read_writes_junk_eq_canon, pieces_turned, ldX_eq, ldW_eq, ldT_eq, ldT_eq, table_eq, table_eq']
  exact ropePieces_canon _ _ _ _ _ _ _ (by decide) r d

theorem plain_apply (hc0 hc1) (r d : Fin 1024) :
    out0_B_4 (F := Ideal) c i a2 h2 a3 h3 a4 h4 a5 h5 a6 h6 hc0 hc1 x0 x1 x2 x3 (ix2 r d) = k0_pay1 (F := Ideal) x0 x1 (ix2 r d) := by
  unfold out0_B_4
  rw [View.read_writes_junk_eq_canon, pieces_plain, ldX_eq, ldW_eq, View.canon_unit_zero zero_off]
  rfl

end Point

/-! ## The array -/

theorem index0 : ∀ t : Fin cfg0.N, win0_0.index t = ![(grid0.coords t 0).val, 0] :=
  (by decide +kernel : ∀ t : Fin grid0.N, _)
theorem index1 : ∀ t : Fin cfg0.N, win0_1.index t = ![0, (grid0.coords t 1).val] :=
  (by decide +kernel : ∀ t : Fin grid0.N, _)
theorem index2 : ∀ t : Fin cfg0.N, win0_2.index t = ![(grid0.coords t 0).val % 4, 0] :=
  (by decide +kernel : ∀ t : Fin grid0.N, _)
theorem index3 : ∀ t : Fin cfg0.N, win0_3.index t = ![(grid0.coords t 0).val % 4, 0] :=
  (by decide +kernel : ∀ t : Fin grid0.N, _)
theorem index4 : ∀ t : Fin cfg0.N, win0_4.index t = ![(grid0.coords t 0).val, (grid0.coords t 1).val] :=
  (by decide +kernel : ∀ t : Fin grid0.N, _)
theorem coord1_eq : ∀ t : Fin cfg0.N, (grid0.coords t 1).val = t.val % 8 :=
  (by decide +kernel : ∀ t : Fin grid0.N, _)
theorem coord0_lt (t : Fin cfg0.N) : (grid0.coords t 0).val < 8 := (grid0.coords t 0).isLt
theorem coord1_lt (t : Fin cfg0.N) : (grid0.coords t 1).val < 8 := (grid0.coords t 1).isLt

variable (m : (ℓ : Loc nD τ sig) → Buf (Elt Ideal) ℓ)

/-- The activations. -/
abbrev argX (c : Dev nD) : S2x4096x4096.Idx → EReal := m ((c : Thread nD τ).loc main_arg0)
/-- The weight. -/
abbrev argW (c : Dev nD) : S4096x8192.Idx → EReal := m ((c : Thread nD τ).loc main_arg1)
/-- The table of cosines. -/
abbrev argC (c : Dev nD) : S4096x128.Idx → EReal := m ((c : Thread nD τ).loc main_arg2)
/-- The table of sines. -/
abbrev argS (c : Dev nD) : S4096x128.Idx → EReal := m ((c : Thread nD τ).loc main_arg3)

/-- The region finds the flattened activations in its first operand, -/
theorem V_v0 (c : Dev nD) : V m c main_v0 = shapeCast S8192x4096 (argX m c) shapeCasts_S2x4096x4096_S8192x4096 := by
  unfold V
  after_results_simp
  rfl
/-- the weight in its second, -/
theorem V_v1 (c : Dev nD) : V m c main_v1 = argW m c := by
  unfold V
  after_results_simp
  rfl
/-- and the two scaled tables in the others. -/
theorem V_v3 (c : Dev nD) (y : S4096x128.Idx) : V m c main_v3 y = argC m c y * Ideal.ofBits .f32 0x3E0293EE#32 := by
  unfold V
  after_results_simp
  rfl
theorem V_v5 (c : Dev nD) (y : S4096x128.Idx) : V m c main_v5 y = argS m c y * Ideal.ofBits .f32 0x3E0293EE#32 := by
  unfold V
  after_results_simp
  rfl

theorem block0 (c : Dev nD) (t : Fin cfg0.N) (r : Fin 1024) (k : Fin 4096) :
    iblk m c 0 t (ix2 r k) = flat (argX m c) ((grid0.coords t 0).val * 1024 + r.val) k.val := by
  have := coord0_lt t
  have h : iblk m c 0 t (ix2 r k) = V m c main_v0 (ix2 ⟨(grid0.coords t 0).val * 1024 + r.val, by omega⟩ k) := by
    blk_simp [iblk]
    congr 1
    blk_ext [index0]
  rw [h, V_v0]
  exact reshape_flat _ _ _ _

theorem block1 (c : Dev nD) (t : Fin cfg0.N) (k : Fin 4096) (d : Fin 1024) :
    iblk m c 1 t (ix2 k d) = at2 (argW m c) k.val ((grid0.coords t 1).val * 1024 + d.val) := by
  have := coord1_lt t
  rw [at2_fin (argW m c) k.isLt (show (grid0.coords t 1).val * 1024 + d.val < 8192 by omega)]
  blk_simp [iblk]
  rw [V_v1]
  congr 1
  blk_ext [index1]

theorem block2 (c : Dev nD) (t : Fin cfg0.N) (r : Fin 1024) (d : Fin 128) :
    iblk m c 2 t (ix2 r d)
      = at2 (argC m c) (((grid0.coords t 0).val * 1024 + r.val) % 4096) d.val * Ideal.ofBits .f32 0x3E0293EE#32 := by
  have := coord0_lt t
  rw [at2_fin (argC m c) (Nat.mod_lt _ (by norm_num)) d.isLt]
  blk_simp [iblk]
  rw [V_v3]
  congr 2
  blk_ext [index2]

theorem block3 (c : Dev nD) (t : Fin cfg0.N) (r : Fin 1024) (d : Fin 128) :
    iblk m c 3 t (ix2 r d)
      = at2 (argS m c) (((grid0.coords t 0).val * 1024 + r.val) % 4096) d.val * Ideal.ofBits .f32 0x3E0293EE#32 := by
  have := coord0_lt t
  rw [at2_fin (argS m c) (Nat.mod_lt _ (by norm_num)) d.isLt]
  blk_simp [iblk]
  rw [V_v5]
  congr 2
  blk_ext [index3]

theorem dot_block (c : Dev nD) (t : Fin cfg0.N) (r d : Fin 1024) :
    k0_pay1 (F := Ideal) (iblk m c 0 t) (iblk m c 1 t) (ix2 r d)
      = prod (argX m c) (argW m c) ((grid0.coords t 0).val * 1024 + r.val) ((grid0.coords t 1).val * 1024 + d.val) := by
  rw [dot_apply]
  simp only [block0, block1]
  rfl

theorem turned_block (c : Dev nD) (t : Fin cfg0.N) (r d : Fin 1024) :
    turn (fun d => at2 (k0_pay1 (F := Ideal) (iblk m c 0 t) (iblk m c 1 t)) r.val d) (iblk m c 2 t) (iblk m c 3 t) r.val d.val
      = turn (prod (argX m c) (argW m c) ((grid0.coords t 0).val * 1024 + r.val)) (argC m c) (argS m c)
          (((grid0.coords t 0).val * 1024 + r.val) % 4096) ((grid0.coords t 1).val * 1024 + d.val)
        * Ideal.ofBits .f32 0x3E0293EE#32 := by
  obtain ⟨s, hs, es⟩ := scale_bits
  unfold turn
  have e0 : ((grid0.coords t 1).val * 1024 + d.val) % 128 = d.val % 128 := by omega
  have e1 : swap ((grid0.coords t 1).val * 1024 + d.val) = (grid0.coords t 1).val * 1024 + swap d.val := by unfold swap; omega
  have e2 : swap d.val < 1024 := by unfold swap; omega
  have e3 : d.val % 128 < 128 := Nat.mod_lt _ (by norm_num)
  dsimp only
  rw [at2_val, at2_fin _ r.isLt e2, at2_fin (iblk m c 2 t) r.isLt e3, at2_fin (iblk m c 3 t) r.isLt e3, dot_block, dot_block, block2,
    block3, e0, e1, es]
  exact turn_scaled hs _ _ _ _

/-- The result array is the projection. -/
theorem array_eq (c : Dev nD) : (dats m 0 c).arrAt 4 cfg0.N
    = fun y : S8192x8192.Idx => qz (argX m c) (argW m c) (argC m c) (argS m c) (y 0).val (y 1).val := by
  refine (dats m 0 c).arrAt_eq_of_covers 4 _ (by decide +kernel) fun t hf y => ?_
  blk_simp [index4]
  rw [after0_4]
  obtain ⟨r, d, rfl⟩ := exists_ix2 y
  have h1 := coord1_eq t
  have hd := d.isLt
  show _ = qz (argX m c) (argW m c) (argC m c) (argS m c) ((grid0.coords t 0).val * 1024 + r.val) ((grid0.coords t 1).val * 1024 + d.val)
  unfold qz
  by_cases h : t.val % 8 ≤ 3
  · rw [outsAt0_A m c t h (by omega), turned_apply, if_pos (by omega)]
    exact turned_block m c t r d
  · rw [outsAt0_B m c t h (by omega), plain_apply, if_neg (by omega)]
    exact dot_block m c t r d

end Cert.Kernel3Ideal.Qz
-- ==== Proof.QzRef.lean ====
/-
  What the reference of the second projection computes: the kernel's projection, entry by entry.
-/
module

public import proofs.«01_k».proof.Proof.Gen.Reference3Ideal.Read
public import proofs.«01_k».proof.Proof.Qz

@[expose] public section

set_option maxRecDepth 65536

noncomputable section

namespace Cert.Reference3Ideal.Qz

open Cert.Reference3Ideal Cert.Reference3Ideal.Gen Cert.Reference3Ideal.Read Idealize.ShloMosaic Idealize.ShloMosaic.TcCoe
open Idealize.SL.Sem Cert.Dense Cert.Kernel3Ideal.Qz

variable (x : FVec Ideal S2x4096x4096 .bf16) (w : FVec Ideal S4096x8192 .f32) (cs sn : FVec Ideal S4096x128 .f32)

theorem dot_apply (b : Fin 2) (t : Fin 4096) (c : Fin 8192) :
    val_main_v1 (F := Ideal) x w (ix3 b t c) = prod x w (b.val * 4096 + t.val) c.val := by
  have e : val_main_v1 (F := Ideal) x w (ix3 b t c) = ∑ k : Fin 4096, x (ix3 b t k) * w (ix2 k c) := by
    pointwise [val_main_v1, val_main_v0]
  rw [e]
  have ht := t.isLt
  refine Finset.sum_congr rfl fun k _ => congrArg₂ (fun a b : EReal => a * b) ?_ (at2_val w k c).symm
  unfold flat
  rw [show (b.val * 4096 + t.val) / 4096 = b.val by omega, show (b.val * 4096 + t.val) % 4096 = t.val by omega]
  exact (at3_val x b t k).symm

theorem heads_eq (b : Fin 2) (t : Fin 4096) (g : Fin 32) (d : Fin 128) :
    val_main_v4 (F := Ideal) x w (ix4 b t g d) = prod x w (b.val * 4096 + t.val) (128 * g.val + d.val) := by
  unfold val_main_v4
  rw [heads_apply rfl, at3_fin _ b.isLt t.isLt (show 128 * g.val + d.val < 4096 by omega)]
  have e : val_main_v2 (F := Ideal) x w (ix3 b t ⟨128 * g.val + d.val, by omega⟩)
      = val_main_v1 (F := Ideal) x w (ix3 b t ⟨128 * g.val + d.val, by omega⟩) := by
    pointwise [val_main_v2]
  exact e.trans (dot_apply x w _ _ _)

theorem roll_eq (b : Fin 2) (t : Fin 4096) (g : Fin 32) (d : Fin 128) :
    val_main_v5 (F := Ideal) x w (ix4 b t g d)
      = val_main_v4 (F := Ideal) x w (ix4 b t g ⟨(d.val + 64) % 128, Nat.mod_lt _ (by norm_num)⟩) := by
  pointwise [val_main_v5, val_main_call0_v0, val_main_call0_v1]
  by_cases h : d.val < 64
  · simp only [h, dif_pos]
    exact congrArg _ (congrArg (ix4 b t g) (Fin.ext (by show 64 + d.val = (d.val + 64) % 128; omega)))
  · simp only [h, dif_neg, not_false_iff]
    exact congrArg _ (congrArg (ix4 b t g) (Fin.ext (by show d.val - 64 = (d.val + 64) % 128; omega)))

theorem turned_eq (b : Fin 2) (t : Fin 4096) (g : Fin 32) (d : Fin 128) :
    val_main_v14 (F := Ideal) x w cs sn (ix4 b t g d)
      = (val_main_v4 (F := Ideal) x w (ix4 b t g d) * cs (ix2 t d) + val_main_v5 (F := Ideal) x w (ix4 b t g d) * sn (ix2 t d))
        * Ideal.ofBits .f32 0x3E0293EE#32 := by
  pointwise [val_main_v14, val_main_v13, val_main_cst, val_main_v12, val_main_v11, val_main_v10, val_main_v9, val_main_v8, val_main_v7,
    val_main_v6]

theorem join_apply (b : Fin 2) (t : Fin 4096) (c : Fin 8192) :
    val_main_v16 (F := Ideal) x w cs sn (ix3 b t c)
      = if h : c.val < 4096 then val_main_v15 (F := Ideal) x w cs sn (ix3 b t ⟨c.val, h⟩)
        else val_main_v1 (F := Ideal) x w (ix3 b t c) := by
  pointwise [val_main_v16, val_main_v3]
  by_cases h : c.val < 4096
  · simp only [h, dif_pos]
  · simp only [h, dif_neg, not_false_iff]
    exact congrArg _ (congrArg (ix3 b t) (Fin.ext (by show 4096 + (c.val - 4096) = c.val; omega)))

/-- The reference's result is the projection. -/
theorem result_eq : val_main_v18 (F := Ideal) x w cs sn = fun y : S8192x8192.Idx => qz x w cs sn (y 0).val (y 1).val := by
  funext y
  obtain ⟨r, c, rfl⟩ := exists_ix2 y
  have hr := r.isLt
  have hc := c.isLt
  show val_main_v17 (F := Ideal) x w cs sn (ix2 r c) = qz x w cs sn r.val c.val
  unfold val_main_v17 qz
  rw [rows_apply, at3_fin _ (show r.val / 4096 < 2 by omega) (Nat.mod_lt _ (by norm_num)) hc, join_apply]
  have er : r.val / 4096 * 4096 + r.val % 4096 = r.val := by omega
  by_cases h : c.val < 4096
  · rw [dif_pos h, if_pos h]
    unfold val_main_v15
    refine (unheads_apply (n := 4096) (k := 32) rfl _ _ _ _ _ (show c.val / 128 < 32 by omega)).trans ?_
    rw [turned_eq, roll_eq, heads_eq, heads_eq]
    unfold turn swap
    dsimp only
    rw [er, show 128 * (c.val / 128) + c.val % 128 = c.val by omega, at2_fin cs (Nat.mod_lt _ (by norm_num)) (Nat.mod_lt _ (by norm_num)),
      at2_fin sn (Nat.mod_lt _ (by norm_num)) (Nat.mod_lt _ (by norm_num))]
  · rw [dif_neg h, if_neg h, dot_apply]
    dsimp only
    rw [er]

end Cert.Reference3Ideal.Qz
-- ==== Proof.Kv.lean ====
/-
  The second layer's projection to keys and values: what one block computes, and what the kernel's result array holds.
  The key columns are turned by the rotary tables.
-/
module

public import proofs.«01_k».proof.Proof.Gen.Kernel6Ideal.Value
public import proofs.«01_k».proof.Proof.Rope
public import Idealize.ShloMosaic.Lib.Tactic

@[expose] public section

set_option maxRecDepth 65536

noncomputable section

namespace Cert.Kernel6Ideal.Kv

open Cert.Kernel6Ideal Cert.Kernel6Ideal.Gen Idealize.ShloMosaic Idealize.ShloMosaic.TcCoe Idealize.SL.Sem Cert.Dense

/-- The projection at token `r` and output column `c`: the first 512 columns turned. -/
def kv (x : S2x4096x4096.Idx → EReal) (w : S4096x1024.Idx → EReal) (cs sn : S4096x128.Idx → EReal) (r c : ℕ) : EReal :=
  if c < 512 then turn (prod x w r) cs sn (r % 4096) c else prod x w r c

/-! ## One block -/

theorem dot_apply (x : FVec Ideal S1024x4096 .bf16) (w : FVec Ideal S4096x512 .bf16) (r : Fin 1024) (c : Fin 512) :
    k0_pay1 (F := Ideal) x w (ix2 r c) = ∑ k : Fin 4096, x (ix2 r k) * w (ix2 k c) := by
  pointwise [k0_pay1]

section Point

variable (c : Dev nD) (i : grid0.Coords) (a2 : Memref sig .tc .vmem S1024x4096 .bf16) (h2 : a2.IsWhole)
  (a3 : Memref sig .tc .vmem S4096x512 .bf16) (h3 : a3.IsWhole) (a4 : Memref sig .tc .vmem S1024x128 .f32) (h4 : a4.IsWhole)
  (a5 : Memref sig .tc .vmem S1024x128 .f32) (h5 : a5.IsWhole) (a6 : Memref sig .tc .vmem S1024x512 .bf16) (h6 : a6.IsWhole)
  (x0 : Vec Ideal S1024x4096 .bf16) (x1 : Vec Ideal S4096x512 .bf16) (x2 x3 : Vec Ideal S1024x128 .f32)

/-- A point's block of activations, as loaded. -/
abbrev ldX : Vec Ideal S1024x4096 .bf16 := View.readAt (Elt Ideal) a2.view
  (Rect.unit (s := S1024x4096) ![0, 0] S1024x4096.size inb_S1024x4096_S1024x4096_0_0).toLoadRect (h2.unread x0)
/-- Its block of the weight. -/
abbrev ldW : Vec Ideal S4096x512 .bf16 := View.readAt (Elt Ideal) a3.view
  (Rect.unit (s := S4096x512) ![0, 0] S4096x512.size inb_S4096x512_S4096x512_0_0).toLoadRect (h3.unread x1)
/-- A block of a table. -/
abbrev ldT : Vec Ideal S1024x128 .f32 := View.readAt (Elt Ideal) a4.view
  (Rect.unit (s := S1024x128) ![0, 0] S1024x128.size inb_S1024x128_S1024x128_0_0).toLoadRect (h4.unread x2)

theorem ldX_eq : ldX a2 h2 x0 = x0 := by
  unfold ldX
  rw [View.readAt_eq_ld, h2.read_unread, View.ld_unit_zero zero_off]
theorem ldW_eq : ldW a3 h3 x1 = x1 := by
  unfold ldW
  rw [View.readAt_eq_ld, h3.read_unread, View.ld_unit_zero zero_off]
theorem ldT_eq : ldT a4 h4 x2 = x2 := by
  unfold ldT
  rw [View.readAt_eq_ld, h4.read_unread, View.ld_unit_zero zero_off]

/-- The stores of a point among the key columns, the last first: four turned tiles. -/
theorem pieces_turned (hc0 hc1) : (kernelRun0_A (F := Ideal) c i a2 h2 a3 h3 a4 h4 a5 h5 a6 h6 hc0 hc1 x0 x1 x2 x3).1
    = ([3, 2, 1, 0] : List (Fin 4)).map (ropePiece (n := 512) (k := 4) rfl
        (k0_pay1 (F := Ideal) (ldX a2 h2 x0) (ldW a3 h3 x1)) rotates_S1024x128_d1 bitsLt_bf16_f32
        (ldT a4 h4 x2) (ldT a5 h5 x3)) := by
  unfold kernelRun0_A
  dsimp only
  rfl

/-- The store of a point among the value columns: the product. -/
theorem pieces_plain (hc0 hc1) : (kernelRun0_B (F := Ideal) c i a2 h2 a3 h3 a4 h4 a5 h5 a6 h6 hc0 hc1 x0 x1 x2 x3).1
    = [⟨Rect.unit (s := S1024x512) ![0, 0] S1024x512.size inb_S1024x512_S1024x512_0_0,
        k0_pay6 (F := Ideal) (ldX a2 h2 x0) (ldW a3 h3 x1)⟩] := by
  unfold kernelRun0_B
  dsimp only

theorem turned_apply (hc0 hc1) (r : Fin 1024) (d : Fin 512) :
    out0_A_4 (F := Ideal) c i a2 h2 a3 h3 a4 h4 a5 h5 a6 h6 hc0 hc1 x0 x1 x2 x3 (ix2 r d)
      = turn (fun d => at2 (k0_pay1 (F := Ideal) x0 x1) r.val d) x2 x3 r.val d.val := by
  unfold out0_A_4
  rw [View.read_writes_junk_eq_canon, pieces_turned, ldX_eq, ldW_eq, ldT_eq, ldT_eq]
  exact ropePieces_canon _ _ _ _ _ _ _ (by decide) r d

theorem plain_apply (hc0 hc1) (r : Fin 1024) (d : Fin 512) :
    out0_B_4 (F := Ideal) c i a2 h2 a3 h3 a4 h4 a5 h5 a6 h6 hc0 hc1 x0 x1 x2 x3 (ix2 r d) = k0_pay1 (F := Ideal) x0 x1 (ix2 r d) := by
  unfold out0_B_4
  rw [View.read_writes_junk_eq_canon, pieces_plain, ldX_eq, ldW_eq, View.canon_unit_zero zero_off]
  rfl

end Point

/-! ## The array -/

theorem index0 : ∀ t : Fin cfg0.N, win0_0.index t = ![(grid0.coords t 0).val, 0] :=
  (by decide +kernel : ∀ t : Fin grid0.N, _)
theorem index1 : ∀ t : Fin cfg0.N, win0_1.index t = ![0, (grid0.coords t 1).val] :=
  (by decide +kernel : ∀ t : Fin grid0.N, _)
theorem index2 : ∀ t : Fin cfg0.N, win0_2.index t = ![(grid0.coords t 0).val % 4, 0] :=
  (by decide +kernel : ∀ t : Fin grid0.N, _)
theorem index3 : ∀ t : Fin cfg0.N, win0_3.index t = ![(grid0.coords t 0).val % 4, 0] :=
  (by decide +kernel : ∀ t : Fin grid0.N, _)
theorem index4 : ∀ t : Fin cfg0.N, win0_4.index t = ![(grid0.coords t 0).val, (grid0.coords t 1).val] :=
  (by decide +kernel : ∀ t : Fin grid0.N, _)
theorem coord1_eq : ∀ t : Fin cfg0.N, (grid0.coords t 1).val = t.val % 2 :=
  (by decide +kernel : ∀ t : Fin grid0.N, _)
theorem coord0_lt (t : Fin cfg0.N) : (grid0.coords t 0).val < 8 := (grid0.coords t 0).isLt
theorem coord1_lt (t : Fin cfg0.N) : (grid0.coords t 1).val < 2 := (grid0.coords t 1).isLt

variable (m : (ℓ : Loc nD τ sig) → Buf (Elt Ideal) ℓ)

/-- The activations. -/
abbrev argX (c : Dev nD) : S2x4096x4096.Idx → EReal := m ((c : Thread nD τ).loc main_arg0)
/-- The weight. -/
abbrev argW (c : Dev nD) : S4096x1024.Idx → EReal := m ((c : Thread nD τ).loc main_arg1)
/-- The table of cosines. -/
abbrev argC (c : Dev nD) : S4096x128.Idx → EReal := m ((c : Thread nD τ).loc main_arg2)
/-- The table of sines. -/
abbrev argS (c : Dev nD) : S4096x128.Idx → EReal := m ((c : Thread nD τ).loc main_arg3)

/-- The region finds the flattened activations in its first operand -/
theorem V_v0 (c : Dev nD) : V m c main_v0 = shapeCast S8192x4096 (argX m c) shapeCasts_S2x4096x4096_S8192x4096 := by
  unfold V
  after_results_simp
  rfl
/-- and the weight in its second. -/
theorem V_v1 (c : Dev nD) : V m c main_v1 = argW m c := by
  unfold V
  after_results_simp
  rfl
theorem block0 (c : Dev nD) (t : Fin cfg0.N) (r : Fin 1024) (k : Fin 4096) :
    iblk m c 0 t (ix2 r k) = flat (argX m c) ((grid0.coords t 0).val * 1024 + r.val) k.val := by
  have := coord0_lt t
  have h : iblk m c 0 t (ix2 r k) = V m c main_v0 (ix2 ⟨(grid0.coords t 0).val * 1024 + r.val, by omega⟩ k) := by
    blk_simp [iblk]
    congr 1
    blk_ext [index0]
  rw [h, V_v0]
  exact reshape_flat _ _ _ _

theorem block1 (c : Dev nD) (t : Fin cfg0.N) (k : Fin 4096) (d : Fin 512) :
    iblk m c 1 t (ix2 k d) = at2 (argW m c) k.val ((grid0.coords t 1).val * 512 + d.val) := by
  have := coord1_lt t
  rw [at2_fin (argW m c) k.isLt (show (grid0.coords t 1).val * 512 + d.val < 1024 by omega)]
  blk_simp [iblk]
  rw [V_v1]
  congr 1
  blk_ext [index1]

theorem block2 (c : Dev nD) (t : Fin cfg0.N) (r : Fin 1024) (d : Fin 128) :
    iblk m c 2 t (ix2 r d)
      = at2 (argC m c) (((grid0.coords t 0).val * 1024 + r.val) % 4096) d.val := by
  have := coord0_lt t
  rw [at2_fin (argC m c) (Nat.mod_lt _ (by norm_num)) d.isLt]
  blk_simp [iblk]
  rw [V_main_arg2]
  congr 1
  blk_ext [index2]

theorem block3 (c : Dev nD) (t : Fin cfg0.N) (r : Fin 1024) (d : Fin 128) :
    iblk m c 3 t (ix2 r d)
      = at2 (argS m c) (((grid0.coords t 0).val * 1024 + r.val) % 4096) d.val := by
  have := coord0_lt t
  rw [at2_fin (argS m c) (Nat.mod_lt _ (by norm_num)) d.isLt]
  blk_simp [iblk]
  rw [V_main_arg3]
  congr 1
  blk_ext [index3]

theorem dot_block (c : Dev nD) (t : Fin cfg0.N) (r : Fin 1024) (d : Fin 512) :
    k0_pay1 (F := Ideal) (iblk m c 0 t) (iblk m c 1 t) (ix2 r d)
      = prod (argX m c) (argW m c) ((grid0.coords t 0).val * 1024 + r.val) ((grid0.coords t 1).val * 512 + d.val) := by
  rw [dot_apply]
  simp only [block0, block1]
  rfl

theorem turned_block (c : Dev nD) (t : Fin cfg0.N) (r : Fin 1024) (d : Fin 512) :
    turn (fun d => at2 (k0_pay1 (F := Ideal) (iblk m c 0 t) (iblk m c 1 t)) r.val d) (iblk m c 2 t) (iblk m c 3 t) r.val d.val
      = turn (prod (argX m c) (argW m c) ((grid0.coords t 0).val * 1024 + r.val)) (argC m c) (argS m c)
          (((grid0.coords t 0).val * 1024 + r.val) % 4096) ((grid0.coords t 1).val * 512 + d.val) := by
  unfold turn
  have e0 : ((grid0.coords t 1).val * 512 + d.val) % 128 = d.val % 128 := by omega
  have e1 : swap ((grid0.coords t 1).val * 512 + d.val) = (grid0.coords t 1).val * 512 + swap d.val := by unfold swap; omega
  have e2 : swap d.val < 512 := by unfold swap; omega
  have e3 : d.val % 128 < 128 := Nat.mod_lt _ (by norm_num)
  dsimp only
  rw [at2_val, at2_fin _ r.isLt e2, at2_fin (iblk m c 2 t) r.isLt e3, at2_fin (iblk m c 3 t) r.isLt e3, dot_block, dot_block, block2,
    block3, e0, e1]

/-- The result array is the projection. -/
theorem array_eq (c : Dev nD) : (dats m 0 c).arrAt 4 cfg0.N
    = fun y : S8192x1024.Idx => kv (argX m c) (argW m c) (argC m c) (argS m c) (y 0).val (y 1).val := by
  refine (dats m 0 c).arrAt_eq_of_covers 4 _ (by decide +kernel) fun t hf y => ?_
  blk_simp [index4]
  rw [after0_4]
  obtain ⟨r, d, rfl⟩ := exists_ix2 y
  have h1 := coord1_eq t
  have hd := d.isLt
  show _ = kv (argX m c) (argW m c) (argC m c) (argS m c) ((grid0.coords t 0).val * 1024 + r.val) ((grid0.coords t 1).val * 512 + d.val)
  unfold kv
  by_cases h : t.val % 2 = 0
  · rw [outsAt0_A m c t h (by omega), turned_apply, if_pos (by omega)]
    exact turned_block m c t r d
  · rw [outsAt0_B m c t h (by omega), plain_apply, if_neg (by omega)]
    exact dot_block m c t r d

end Cert.Kernel6Ideal.Kv
-- ==== Proof.KvRef.lean ====
/-
  What the reference of the third projection computes: the kernel's projection, entry by entry.
-/
module

public import proofs.«01_k».proof.Proof.Gen.Reference6Ideal.Read
public import proofs.«01_k».proof.Proof.Kv

@[expose] public section

set_option maxRecDepth 65536

noncomputable section

namespace Cert.Reference6Ideal.Kv

open Cert.Reference6Ideal Cert.Reference6Ideal.Gen Cert.Reference6Ideal.Read Idealize.ShloMosaic Idealize.ShloMosaic.TcCoe
open Idealize.SL.Sem Cert.Dense Cert.Kernel6Ideal.Kv

variable (x : FVec Ideal S2x4096x4096 .bf16) (w : FVec Ideal S4096x1024 .f32) (cs sn : FVec Ideal S4096x128 .f32)

theorem dot_apply (b : Fin 2) (t : Fin 4096) (c : Fin 1024) :
    val_main_v1 (F := Ideal) x w (ix3 b t c) = prod x w (b.val * 4096 + t.val) c.val := by
  have e : val_main_v1 (F := Ideal) x w (ix3 b t c) = ∑ k : Fin 4096, x (ix3 b t k) * w (ix2 k c) := by
    pointwise [val_main_v1, val_main_v0]
  rw [e]
  have ht := t.isLt
  refine Finset.sum_congr rfl fun k _ => congrArg₂ (fun a b : EReal => a * b) ?_ (at2_val w k c).symm
  unfold flat
  rw [show (b.val * 4096 + t.val) / 4096 = b.val by omega, show (b.val * 4096 + t.val) % 4096 = t.val by omega]
  exact (at3_val x b t k).symm

theorem heads_eq (b : Fin 2) (t : Fin 4096) (g : Fin 4) (d : Fin 128) :
    val_main_v4 (F := Ideal) x w (ix4 b t g d) = prod x w (b.val * 4096 + t.val) (128 * g.val + d.val) := by
  unfold val_main_v4
  rw [heads_apply rfl, at3_fin _ b.isLt t.isLt (show 128 * g.val + d.val < 512 by omega)]
  have e : val_main_v2 (F := Ideal) x w (ix3 b t ⟨128 * g.val + d.val, by omega⟩)
      = val_main_v1 (F := Ideal) x w (ix3 b t ⟨128 * g.val + d.val, by omega⟩) := by
    pointwise [val_main_v2]
  exact e.trans (dot_apply x w _ _ _)

theorem roll_eq (b : Fin 2) (t : Fin 4096) (g : Fin 4) (d : Fin 128) :
    val_main_v5 (F := Ideal) x w (ix4 b t g d)
      = val_main_v4 (F := Ideal) x w (ix4 b t g ⟨(d.val + 64) % 128, Nat.mod_lt _ (by norm_num)⟩) := by
  pointwise [val_main_v5, val_main_call0_v0, val_main_call0_v1]
  by_cases h : d.val < 64
  · simp only [h, dif_pos]
    exact congrArg _ (congrArg (ix4 b t g) (Fin.ext (by show 64 + d.val = (d.val + 64) % 128; omega)))
  · simp only [h, dif_neg, not_false_iff]
    exact congrArg _ (congrArg (ix4 b t g) (Fin.ext (by show d.val - 64 = (d.val + 64) % 128; omega)))

theorem turned_eq (b : Fin 2) (t : Fin 4096) (g : Fin 4) (d : Fin 128) :
    val_main_v12 (F := Ideal) x w cs sn (ix4 b t g d)
      = val_main_v4 (F := Ideal) x w (ix4 b t g d) * cs (ix2 t d) + val_main_v5 (F := Ideal) x w (ix4 b t g d) * sn (ix2 t d) := by
  pointwise [val_main_v12, val_main_v11, val_main_v10, val_main_v9, val_main_v8, val_main_v7, val_main_v6]

theorem join_apply (b : Fin 2) (t : Fin 4096) (c : Fin 1024) :
    val_main_v14 (F := Ideal) x w cs sn (ix3 b t c)
      = if h : c.val < 512 then val_main_v13 (F := Ideal) x w cs sn (ix3 b t ⟨c.val, h⟩)
        else val_main_v1 (F := Ideal) x w (ix3 b t c) := by
  pointwise [val_main_v14, val_main_v3]
  by_cases h : c.val < 512
  · simp only [h, dif_pos]
  · simp only [h, dif_neg, not_false_iff]
    exact congrArg _ (congrArg (ix3 b t) (Fin.ext (by show 512 + (c.val - 512) = c.val; omega)))

/-- The reference's result is the projection. -/
theorem result_eq : val_main_v16 (F := Ideal) x w cs sn = fun y : S8192x1024.Idx => kv x w cs sn (y 0).val (y 1).val := by
  funext y
  obtain ⟨r, c, rfl⟩ := exists_ix2 y
  have hr := r.isLt
  have hc := c.isLt
  show val_main_v15 (F := Ideal) x w cs sn (ix2 r c) = kv x w cs sn r.val c.val
  unfold val_main_v15 kv
  rw [rows_apply, at3_fin _ (show r.val / 4096 < 2 by omega) (Nat.mod_lt _ (by norm_num)) hc, join_apply]
  have er : r.val / 4096 * 4096 + r.val % 4096 = r.val := by omega
  by_cases h : c.val < 512
  · rw [dif_pos h, if_pos h]
    unfold val_main_v13
    refine (unheads_apply (n := 512) (k := 4) rfl _ _ _ _ _ (show c.val / 128 < 4 by omega)).trans ?_
    rw [turned_eq, roll_eq, heads_eq, heads_eq]
    unfold turn swap
    dsimp only
    rw [er, show 128 * (c.val / 128) + c.val % 128 = c.val by omega, at2_fin cs (Nat.mod_lt _ (by norm_num)) (Nat.mod_lt _ (by norm_num)),
      at2_fin sn (Nat.mod_lt _ (by norm_num)) (Nat.mod_lt _ (by norm_num))]
  · rw [dif_neg h, if_neg h, dot_apply]
    dsimp only
    rw [er]

end Cert.Reference6Ideal.Kv
-- ==== Proof.Out.lean ====
/-
  The first layer's output projection: what one block computes, what the region's result array holds, and what the run
  leaves in the program's result, the array with its rows split into the two sequences again.
-/
module

public import proofs.«01_k».proof.Proof.Gen.Kernel4Ideal.Frame
public import proofs.«01_k».proof.Proof.Dense
public import Idealize.ShloMosaic.Lib.Pipeline.ValueKit
public import Idealize.ShloMosaic.Lib.Tactic
public import Idealize.ShloMosaic.Lib.StableHlo.Run

@[expose] public section

set_option maxRecDepth 65536

noncomputable section

namespace Cert.Kernel4Ideal.Out

open Cert.Kernel4Ideal Cert.Kernel4Ideal.Gen Idealize.ShloMosaic Idealize.ShloMosaic.TcCoe Idealize.SL.Sem Cert.Dense

/-- The projection at token `r` and column `c`: the residual plus the gate's multiple of the product. -/
def out (a : S8192x4096.Idx → EReal) (w : S4096x4096.Idx → EReal) (x : S2x4096x4096.Idx → EReal) (g : S2x1x12288.Idx → EReal)
    (r c : ℕ) : EReal :=
  flat x r c + at3 g (r / 4096) 0 (8192 + c) * ∑ k : Fin 4096, at2 a r k.val * at2 w k.val c

theorem block_apply (a : FVec Ideal S1024x4096 .bf16) (w : FVec Ideal S4096x512 .bf16) (x : FVec Ideal S1024x512 .f32)
    (g : FVec Ideal S1x1x512 .f32) (r : Fin 1024) (c : Fin 512) :
    k0_pay1 (F := Ideal) a w x g (ix2 r c) = x (ix2 r c) + g (ix3 0 0 c) * ∑ k : Fin 4096, a (ix2 r k) * w (ix2 k c) := by
  pointwise [k0_pay1]

theorem index0 : ∀ t : Fin cfg0.N, win0_0.index t = ![(grid0.coords t 0).val, 0] :=
  (by decide +kernel : ∀ t : Fin grid0.N, _)
theorem index1 : ∀ t : Fin cfg0.N, win0_1.index t = ![0, (grid0.coords t 1).val] :=
  (by decide +kernel : ∀ t : Fin grid0.N, _)
theorem index2 : ∀ t : Fin cfg0.N, win0_2.index t = ![(grid0.coords t 0).val, (grid0.coords t 1).val] :=
  (by decide +kernel : ∀ t : Fin grid0.N, _)
theorem index3 : ∀ t : Fin cfg0.N, win0_3.index t = ![(grid0.coords t 0).val / 4, 0, 16 + (grid0.coords t 1).val] :=
  (by decide +kernel : ∀ t : Fin grid0.N, _)
theorem index4 : ∀ t : Fin cfg0.N, win0_4.index t = ![(grid0.coords t 0).val, (grid0.coords t 1).val] :=
  (by decide +kernel : ∀ t : Fin grid0.N, _)
theorem coord0_lt (t : Fin cfg0.N) : (grid0.coords t 0).val < 8 := (grid0.coords t 0).isLt
theorem coord1_lt (t : Fin cfg0.N) : (grid0.coords t 1).val < 8 := (grid0.coords t 1).isLt

variable (m : (ℓ : Loc nD τ sig) → Buf (Elt Ideal) ℓ) (ρ : Dev nD → PrngReg)

/-- The attention's rows. -/
abbrev argA (c : Dev nD) : S8192x4096.Idx → EReal := m ((c : Thread nD τ).loc main_arg0)
/-- The weight. -/
abbrev argW (c : Dev nD) : S4096x4096.Idx → EReal := m ((c : Thread nD τ).loc main_arg1)
/-- The residual. -/
abbrev argX (c : Dev nD) : S2x4096x4096.Idx → EReal := m ((c : Thread nD τ).loc main_arg2)
/-- The modulation, whose last third is the gate. -/
abbrev argG (c : Dev nD) : S2x1x12288.Idx → EReal := m ((c : Thread nD τ).loc main_arg3)

/-- The region finds the weight in its second operand -/
theorem V_v0 (c : Dev nD) : V m c main_v0 = argW m c := by
  unfold V V0
  simp only [List.flatten_cons, List.flatten_nil, List.append_nil]
  after_results_simp
  rfl
/-- and the flattened residual in its third. -/
theorem V_v1 (c : Dev nD) : V m c main_v1 = shapeCast S8192x4096 (argX m c) shapeCasts_S2x4096x4096_S8192x4096 := by
  unfold V V0
  simp only [List.flatten_cons, List.flatten_nil, List.append_nil]
  after_results_simp
  rfl

theorem block0 (c : Dev nD) (t : Fin cfg0.N) (r : Fin 1024) (k : Fin 4096) :
    iblk m c 0 t (ix2 r k) = at2 (argA m c) ((grid0.coords t 0).val * 1024 + r.val) k.val := by
  have := coord0_lt t
  rw [at2_fin (argA m c) (show (grid0.coords t 0).val * 1024 + r.val < 8192 by omega) k.isLt]
  blk_simp [iblk]
  rw [V_main_arg0]
  congr 1
  blk_ext [index0]

theorem block1 (c : Dev nD) (t : Fin cfg0.N) (k : Fin 4096) (d : Fin 512) :
    iblk m c 1 t (ix2 k d) = at2 (argW m c) k.val ((grid0.coords t 1).val * 512 + d.val) := by
  have := coord1_lt t
  rw [at2_fin (argW m c) k.isLt (show (grid0.coords t 1).val * 512 + d.val < 4096 by omega)]
  blk_simp [iblk]
  rw [V_v0]
  congr 1
  blk_ext [index1]

theorem block2 (c : Dev nD) (t : Fin cfg0.N) (r : Fin 1024) (d : Fin 512) :
    iblk m c 2 t (ix2 r d) = flat (argX m c) ((grid0.coords t 0).val * 1024 + r.val) ((grid0.coords t 1).val * 512 + d.val) := by
  have := coord0_lt t
  have := coord1_lt t
  have h : iblk m c 2 t (ix2 r d) = V m c main_v1 (ix2 ⟨(grid0.coords t 0).val * 1024 + r.val, by omega⟩
      ⟨(grid0.coords t 1).val * 512 + d.val, by omega⟩) := by
    blk_simp [iblk]
    congr 1
    blk_ext [index2]
  rw [h, V_v1]
  exact reshape_flat _ _ _ _

theorem block3 (c : Dev nD) (t : Fin cfg0.N) (d : Fin 512) :
    iblk m c 3 t (ix3 0 0 d) = at3 (argG m c) ((grid0.coords t 0).val / 4) 0 (8192 + ((grid0.coords t 1).val * 512 + d.val)) := by
  have := coord0_lt t
  have := coord1_lt t
  rw [at3_fin (argG m c) (show (grid0.coords t 0).val / 4 < 2 by omega) (show 0 < 1 by omega)
    (show 8192 + ((grid0.coords t 1).val * 512 + d.val) < 12288 by omega)]
  blk_simp [iblk]
  rw [V_main_arg3]
  congr 1
  blk_ext [index3]

/-- The region's result array is the projection. -/
theorem array_eq (c : Dev nD) : (dats m 0 c).arrAt 4 cfg0.N
    = fun y : S8192x4096.Idx => out (argA m c) (argW m c) (argX m c) (argG m c) (y 0).val (y 1).val := by
  refine (dats m 0 c).arrAt_eq_of_covers 4 _ (by decide +kernel) fun t hf y => ?_
  blk_simp [index4]
  rw [after0_4]
  unfold out0_4
  rw [View.canon_unit_zero zero_off, View.ld_unit_zero zero_off, View.ld_unit_zero zero_off, View.ld_unit_zero zero_off,
    View.ld_unit_zero zero_off3]
  obtain ⟨r, d, rfl⟩ := exists_ix2 y
  have := coord0_lt t
  rw [block_apply, block2, block3]
  simp only [block0, block1]
  show _ = out (argA m c) (argW m c) (argX m c) (argG m c) ((grid0.coords t 0).val * 1024 + r.val) ((grid0.coords t 1).val * 512 + d.val)
  unfold out
  rw [show ((grid0.coords t 0).val * 1024 + r.val) / 4096 = (grid0.coords t 0).val / 4 by omega]

/-- The reshape after the region leaves the result array, its rows split into the two sequences. -/
theorem tail_eq (c : Dev nD) : Pipeline.afterTail₀ cfgs (dats m) 0 (V0 m) [hostOps1] c main_v3
    = shapeCast S2x4096x4096 ((dats m 0 c).arrAt 4 cfg0.N) shapeCasts_S8192x4096_S2x4096x4096 := by
  unfold Pipeline.afterTail₀
  simp only [List.flatten_cons, List.flatten_nil, List.append_nil]
  after_results_simp
  exact congrArg (fun x => shapeCast S2x4096x4096 x shapeCasts_S8192x4096_S2x4096x4096)
    (Pipeline.withArrays_arr spec0 launch0.win.arr_inj c (V0 m c) (fun w => (dats m 0 c).arrAt w cfg0.N) 4)

/-- After every run the result is the projection, and the arguments are unchanged. -/
theorem run_result : θ_run defs (onTc (τ := τ) (main (F := Ideal))) ⟨m, fun _ => 0, ρ⟩ (fun r => ∀ c : Dev nD,
      r.2.mem ((c : Thread nD τ).loc main_v3)
        = (fun y : S2x4096x4096.Idx => out (argA m c) (argW m c) (argX m c) (argG m c) ((y 0).val * 4096 + (y 1).val) (y 2).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun r h c => ⟨?_, h.2 c⟩) (θ_run_and (run_main m ρ) (unchanged m ρ))
  refine ((h.1 c).2 main_v3 (Pipeline.mem_restRefs_of main_v3 (by decide) (by decide))).trans ((tail_eq m c).trans ?_)
  rw [array_eq]
  funext y
  obtain ⟨b, t, d, rfl⟩ := exists_ix3 y
  have ht := t.isLt
  refine (unrows_apply _ _ b t d).trans ?_
  rw [at2_fin _ (show b.val * 4096 + t.val < 8192 by omega) d.isLt]
  rfl

end Cert.Kernel4Ideal.Out
-- ==== Proof.OutRef.lean ====
/-
  What the reference of the first layer's output projection computes: the kernel's projection, entry by entry.
-/
module

public import proofs.«01_k».proof.Proof.Gen.Reference4Ideal.Read
public import proofs.«01_k».proof.Proof.Out

@[expose] public section

set_option maxRecDepth 65536

noncomputable section

namespace Cert.Reference4Ideal.Out

open Cert.Reference4Ideal Cert.Reference4Ideal.Gen Cert.Reference4Ideal.Read Idealize.ShloMosaic Idealize.ShloMosaic.TcCoe
open Idealize.SL.Sem Cert.Dense Cert.Kernel4Ideal.Out

variable (a : FVec Ideal S8192x4096 .bf16) (w : FVec Ideal S4096x4096 .f32) (x : FVec Ideal S2x4096x4096 .f32)
  (g : FVec Ideal S2x1x12288 .f32)

theorem dot_apply (r : Fin 8192) (c : Fin 4096) :
    val_main_v2 (F := Ideal) a w (ix2 r c) = ∑ k : Fin 4096, at2 a r.val k.val * at2 w k.val c.val := by
  have e : val_main_v2 (F := Ideal) a w (ix2 r c) = ∑ k : Fin 4096, a (ix2 r k) * w (ix2 k c) := by
    pointwise [val_main_v2, val_main_v1]
  rw [e]
  exact Finset.sum_congr rfl fun k _ => congrArg₂ (fun a b : EReal => a * b) (at2_val a r k).symm (at2_val w k c).symm

theorem gate_apply (b : Fin 2) (t c : Fin 4096) :
    val_main_v4 (F := Ideal) g (ix3 b t c) = at3 g b.val 0 (8192 + c.val) := by
  rw [at3_fin g b.isLt (show 0 < 1 by omega) (show 8192 + c.val < 12288 by omega)]
  pointwise [val_main_v4, val_main_v0]

/-- The reference's result is the projection. -/
theorem result_eq : val_main_v6 (F := Ideal) a w x g
    = fun y : S2x4096x4096.Idx => out a w x g ((y 0).val * 4096 + (y 1).val) (y 2).val := by
  funext y
  obtain ⟨b, t, c, rfl⟩ := exists_ix3 y
  have ht := t.isLt
  have hb := b.isLt
  show x (ix3 b t c) + val_main_v4 (F := Ideal) g (ix3 b t c) * val_main_v3 (F := Ideal) a w (ix3 b t c)
    = out a w x g (b.val * 4096 + t.val) c.val
  have e : val_main_v3 (F := Ideal) a w (ix3 b t c) = at2 (val_main_v2 (F := Ideal) a w) (b.val * 4096 + t.val) c.val :=
    unrows_apply _ _ b t c
  rw [e, at2_fin _ (show b.val * 4096 + t.val < 8192 by omega) c.isLt, dot_apply, gate_apply]
  unfold out flat
  rw [show (b.val * 4096 + t.val) / 4096 = b.val by omega, show (b.val * 4096 + t.val) % 4096 = t.val by omega, at3_val]

end Cert.Reference4Ideal.Out
-- ==== Proof.NormBody.lean ====
/-
  The block kernel of the output projection with its closing row normalization.
-/
module

public import proofs.«01_k».proof.Proof.Gen.Kernel5Ideal.Frame
public import Idealize.ShloMosaic.Lib.VecWindow

@[expose] public section

set_option maxRecDepth 16384

noncomputable section

namespace Cert.Kernel5Ideal.Body

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The `k`-th conditional store runs exactly at the `k`-th column step, and the normalization at the last. -/
theorem conds (i : grid0.Coords) : (k0_cond1 i = 1#1 ↔ (i 1).val = 0) ∧ (k0_cond2 i = 1#1 ↔ (i 1).val = 1)
    ∧ (k0_cond3 i = 1#1 ↔ (i 1).val = 2) ∧ (k0_cond4 i = 1#1 ↔ (i 1).val = 3) ∧ (k0_cond5 i = 1#1 ↔ (i 1).val = 4)
    ∧ (k0_cond6 i = 1#1 ↔ (i 1).val = 5) ∧ (k0_cond7 i = 1#1 ↔ (i 1).val = 6) ∧ (k0_cond8 i = 1#1 ↔ (i 1).val = 7)
    ∧ (k0_cond9 i = 1#1 ↔ (i 1).val = 7) := by
  unfold k0_cond1 k0_cond2 k0_cond3 k0_cond4 k0_cond5 k0_cond6 k0_cond7 k0_cond8 k0_cond9
  have h : (i 1).val < 8 := (i 1).isLt
  revert h
  generalize (i 1).val = n
  intro h
  obtain rfl | rfl | rfl | rfl | rfl | rfl | rfl | rfl : n = 0 ∨ n = 1 ∨ n = 2 ∨ n = 3 ∨ n = 4 ∨ n = 5 ∨ n = 6 ∨ n = 7 := by omega
  all_goals decide

/-- The block of residual rows plus the gated product: what one column step computes. -/
def proj (x0 : Vec F S512x4096 .bf16) (x1 : Vec F S4096x512 .bf16) (x2 : Vec F S512x512 .f32) (x3 : Vec F S1x1x512 .f32) : FVec F S512x512 .f32 :=
  addf (shapeCast S512x512 x2 shapeCasts_S512x512_S512x512)
    (mulf (broadcastTo S512x512 (shapeCast S1x512 x3 shapeCasts_S1x1x512_S1x512) broadcasts_S1x512_S512x512)
      (matmul dot_S512x4096_S4096x512_S512x512_1_0_0_1_n_n none x0 (shapeCast S4096x512 x1 shapeCasts_S4096x512_S4096x512) (constant S512x512 .f32 0x00000000#32)))

/-- A row block divided by the root of its rows' mean squares and scaled: what the last column step stores. -/
def normed (z : Vec F S512x4096 .f32) (x4 : Vec F S1x4096 .f32) : FVec F S512x4096 .f32 :=
  mulf (mulf (shapeCast S512x4096 z shapeCasts_S512x4096_S512x4096)
      (broadcastTo S512x4096 (rsqrt (addf (divf (shapeCast S512x1 (multiReduction .add [1] S512 (mulf (shapeCast S512x4096 z shapeCasts_S512x4096_S512x4096) (shapeCast S512x4096 z shapeCasts_S512x4096_S512x4096)) 0x00000000#32 reduces_S512x4096_S512 (.inl rfl) rfl) shapeCasts_S512_S512x1)
          (broadcast S512x1 (Scalar.ofBits .f32 0x45800000#32))) (broadcast S512x1 (Scalar.ofBits .f32 0x358637BD#32)))) broadcasts_S512x1_S512x4096))
    (broadcastTo S512x4096 (shapeCast S1x4096 x4 shapeCasts_S1x4096_S1x4096) broadcasts_S1x4096_S512x4096)

/-- The row block after a column step writes its 512 columns. -/
def part (n : ℕ) (z : FVec F S512x512 .f32) (Y : Vec F S512x4096 .f32) : Vec F S512x4096 .f32 :=
  VecWindow.put (s := S512x4096) Y ![0, 512 * n] S512x512.size z

/-- The row block after column step `n`, from what it held before. -/
def step (n : ℕ) (x0 : Vec F S512x4096 .bf16) (x1 : Vec F S4096x512 .bf16) (x2 : Vec F S512x512 .f32) (x3 : Vec F S1x1x512 .f32) (x4 : Vec F S1x4096 .f32) (Y : Vec F S512x4096 .f32) : Vec F S512x4096 .f32 :=
  if n = 7 then normed (part n (proj x0 x1 x2 x3) Y) x4 else part n (proj x0 x1 x2 x3) Y

/-- One store of 512 columns through a view reads back as `part` of what the view held. -/
theorem read_part (v : View sig .tc .vmem S512x4096 .f32) (f : v.ty.Contents (Elt F)) (n k : ℕ) (h : k = 512 * n)
    (inb : ∀ a, (![0, k] : Fin 2 → ℕ) a + S512x512.size a ≤ S512x4096.size a) (w z : FVec F S512x512 .f32) (hz : w = z) :
    v.read (Elt F) (v.writes (Elt F) f [⟨Rect.unit (s := S512x4096) ![0, k] S512x512.size inb, w⟩]) = part n z (v.read (Elt F) f) := by
  subst hz h
  exact View.read_writes_cons_put v f inb w [] rfl

set_option maxHeartbeats 1000000 in
/-- One run of the block kernel: the input blocks are kept and the row block becomes `step` of what it held. -/
theorem sound (c : Dev nD) (E : Set ℕ) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x1x512 .f32) (harg5 : arg5.IsWhole) (arg6 : Memref sig .tc .vmem S1x4096 .f32) (harg6 : arg6.IsWhole) (arg7 : Memref sig .tc .vmem S512x4096 .f32) (harg7 : arg7.IsWhole)
    (x0 : Vec F S512x4096 .bf16) (x1 : Vec F S4096x512 .bf16) (x2 : Vec F S512x512 .f32) (x3 : Vec F S1x1x512 .f32) (x4 : Vec F S1x4096 .f32) (Y : Vec F S512x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare Y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (step (i 1).val x0 x1 x2 x3 x4 Y)) -∗ K ⟨⟩))
      ⊢ wp frame (wpE (defs₀ (F := F)) Variants.none c none) E (cc0_out_proj_norm i arg2 harg2 arg3 harg3 arg4 harg4 arg5 harg5 arg6 harg6 arg7 harg7) K := by
  obtain ⟨e1, e2, e3, e4, e5, e6, e7, e8, e9⟩ := conds i
  unfold cc0_out_proj_norm
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  have h : (i 1).val < 8 := (i 1).isLt
  revert h e1 e2 e3 e4 e5 e6 e7 e8 e9
  generalize (i 1).val = n
  intro e1 e2 e3 e4 e5 e6 e7 e8 e9 h
  obtain rfl | rfl | rfl | rfl | rfl | rfl | rfl | rfl : n = 0 ∨ n = 1 ∨ n = 2 ∨ n = 3 ∨ n = 4 ∨ n = 5 ∨ n = 6 ∨ n = 7 := by omega
  all_goals
    simp only [reduceCtorEq, iff_false, iff_true, OfNat.ofNat_ne_zero, OfNat.zero_ne_ofNat, Nat.reduceEqDiff, zero_ne_one, one_ne_zero, OfNat.one_ne_ofNat, OfNat.ofNat_ne_one] at e1 e2 e3 e4 e5 e6 e7 e8 e9
    sl_exec
    sl_step
    iapply Hk
    isplitl [H0]; iexists f0; isplitr; ipureintro; rfl; iexact H0
    isplitl [H1]; iexists f1; isplitr; ipureintro; rfl; iexact H1
    isplitl [H2]; iexists f2; isplitr; ipureintro; rfl; iexact H2
    isplitl [H3]; iexists f3; isplitr; ipureintro; rfl; iexact H3
    isplitl [H4]; iexists f4; isplitr; ipureintro; rfl; iexact H4
    iexists _; isplitr
    rotate_left
    · iexact H5
    · ipureintro
      rw [step]
      first
        | (rw [if_neg (by decide), ← View.readAt_full arg2.view f0 inb_S512x4096_S512x4096_0_0, ← View.readAt_full arg3.view f1 inb_S4096x512_S4096x512_0_0,
             ← View.readAt_full arg4.view f2 inb_S512x512_S512x512_0_0, ← View.readAt_full arg5.view f3 inb_S1x1x512_S1x1x512_0_0_0]
           exact read_part arg7.view f5 _ _ (by decide) _ _ _ (by unfold proj; rfl))
        | (rw [if_pos rfl, ← View.readAt_full arg2.view f0 inb_S512x4096_S512x4096_0_0, ← View.readAt_full arg3.view f1 inb_S4096x512_S4096x512_0_0,
             ← View.readAt_full arg4.view f2 inb_S512x512_S512x512_0_0, ← View.readAt_full arg5.view f3 inb_S1x1x512_S1x1x512_0_0_0,
             ← View.readAt_full arg6.view f4 inb_S1x4096_S1x4096_0_0,
             ← read_part arg7.view f5 7 3584 (by decide) inb_S512x4096_S512x512_0_3584 _ _ rfl]
           refine (View.read_writes_full arg7.view f5 _ _ _).trans ?_
           rw [← View.readAt_full arg7.view _ inb_S512x4096_S512x4096_0_0]
           unfold normed proj
           rfl)

end Cert.Kernel5Ideal.Body

end
-- ==== Proof.Tail.lean ====
/-
  The launch of a program whose region leaves determined arrays although its block kernel, between write-backs, leaves
  contents that only a relation describes: the run ends with the arrays at what exact data name and with every other buffer at
  what the host lines after the region make of them.
-/
module

public import Idealize.ShloMosaic.Lib.Pipeline.FrameSuffix
public import Idealize.ShloMosaic.Lib.Pipeline.ArrRel

@[expose] public section

noncomputable section

namespace Cert.Tail

open Idealize.ShloMosaic Idealize.ShloMosaic.Pipeline Idealize.ShloMosaic.Rounds
open Idealize.SL Idealize.SL.RA
open Idealize.SL.BI (sProp bigSep)
open scoped Idealize.SL.BI
open Idealize.SL.BI.BIBase Idealize.SL.BI.Laws Idealize.SL.Sem Idealize.SL.ProofMode
open TcCoe

variable {nD : Nat} {τ : Topo} {sig : RefSig} {Val : EltTy → Type}
variable {Λ₀ : Sem.Labels} {P : Type} [Fintype P] [DecidableEq P] [∀ e, Nonempty (Val e)]

local notation "𝕄" => MT nD τ sig Unit Val ℕ (UR sig nD τ) ℕ

variable (pcs : P → PCfg sig Λ₀ Val) (a : (p : P) → (pcs p).Adm)
  (dats : (p : P) → (c : Dev nD) → Dat τ Val Unit ℕ (UR sig nD τ) ℕ (pin pcs a p) c) (p : P)
  (kit : PLaunchFacts (nD := nD) (τ := τ) pcs p) (defs₀ : Defs nD τ sig Val Λ₀) (𝒱₀ : Variants)
  (rdat : (c : Dev nD) → RDat τ Val Unit ℕ (UR sig nD τ) ℕ (pin pcs a p) c)

omit [Fintype P] in
/-- Where the relation determines every array, holding the arrays at the end is holding them at what the exact data name. -/
theorem arrays_end (hdet : ∀ c A, (∀ w, (rdat c).ArrAt w (pin pcs a p).N (A w)) → A = fun w => (dats p c).arrAt w (pin pcs a p).N) (c : Dev nD) :
    ((RDat.familyOf pcs a p rdat p c).arraysAt (pin pcs a p).N : sProp 𝕄)
      ⊢ iprop(⌜∀ w, (rdat c).ArrAt w (pin pcs a p).N ((dats p c).arrAt w (pin pcs a p).N)⌝
          ∗ (rdat c).arrays fun w => (dats p c).arrAt w (pin pcs a p).N) := by
  rw [RDat.familyOf_self]
  unfold RDat.arraysAt
  iintro H
  ihave H := (BI.bigSep_exists_pi Finset.univ (fun w B => iprop(⌜(rdat c).ArrAt w (pin pcs a p).N B⌝
      ∗ ((pin pcs a p).win w).arr.view.loc (c.tc : Thread nD τ) ↦[((pin pcs a p).win w).arr.view.set]{(rdat c).share w} B))) $$ H
  icases H with ⟨%B, H⟩
  ihave H := (BI.bigSep_pure_sep Finset.univ (fun w => (rdat c).ArrAt w (pin pcs a p).N (B w))
      (fun w => ((pin pcs a p).win w).arr.view.loc (c.tc : Thread nD τ) ↦[((pin pcs a p).win w).arr.view.set]{(rdat c).share w} B w)) $$ H
  icases H with ⟨%h, H⟩
  have h' : ∀ w, (rdat c).ArrAt w (pin pcs a p).N (B w) := fun w => h w (Finset.mem_univ w)
  obtain rfl := hdet c B h'
  isplitr
  · ipureintro; exact h'
  · unfold RDat.arrays; iexact H

omit [Fintype P] in
/-- And the arrays at those contents are the arrays at the end. -/
theorem end_arrays (c : Dev nD) (B : (w : Fin (pin pcs a p).W) → Buf Val (((pin pcs a p).win w).arr.view.loc (c.tc : Thread nD τ)))
    (h : ∀ w, (rdat c).ArrAt w (pin pcs a p).N (B w)) :
    ((rdat c).arrays B : sProp 𝕄) ⊢ (RDat.familyOf pcs a p rdat p c).arraysAt (pin pcs a p).N := by
  rw [RDat.familyOf_self]
  unfold RDat.arraysAt RDat.arrays
  refine BI.bigSep_mono fun w _ => ?_
  show (((pin pcs a p).win w).arr.view.loc (c.tc : Thread nD τ) ↦[((pin pcs a p).win w).arr.view.set]{(rdat c).share w} B w : sProp 𝕄)
    ⊢ iprop(∃ D, ⌜(rdat c).ArrAt w (pin pcs a p).N D⌝ ∗ ((pin pcs a p).win w).arr.view.loc (c.tc : Thread nD τ) ↦[((pin pcs a p).win w).arr.view.set]{(rdat c).share w} D)
  iintro H
  iexists (B w)
  isplitr
  · ipureintro; exact h w
  · iexact H

include kit in
/-- The run: the arrays end at what the exact data name, every other buffer at what the later host lines leave, and every
    counter at zero. -/
theorem run_determined (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hpf' : ∀ c k, afterTail pcs a dats p V₀ opss c ((pcs p).pre.ref k) = (a p).1 k)
    (hin : ∀ c, ΦA (pin pcs a p).spec c ⊢ (rdat c).Φ 0) (hout : ∀ c, (rdat c).Φ (Fin.last (pin pcs a p).N) ⊢ ΦA (pin pcs a p).spec c)
    (hdet : ∀ c A, (∀ w, (rdat c).ArrAt w (pin pcs a p).N (A w)) → A = fun w => (dats p c).arrAt w (pin pcs a p).N) :
    θ_run (Pipeline.defs pcs defs₀) (onTc main) ⟨m, fun _ => 0, g⟩
      (fun r => FramePost (pin pcs a) dats p (afterTail pcs a dats p V₀ opss) r ∧ r.2.sem = fun _ => 0) := by
  classical
  refine RDat.θ_run_region_pf_tail_quiescent pcs a (RDat.familyOf pcs a p rdat) () (kit.to₀.cellOf_inj a) p kit.to₀.win
    (OwnSemFacts.none (pin pcs a p).spec) kit.to₀.pre emb₁ defs₀ 𝒱₀ m g main (fun _ => chain (opss.map StableHlo.seq))
    (fun c => by rw [RDat.familyOf_self]; exact hbody c) kit.to₀.block_pos kit.to₀.arr_whole kit.to₀.stage_whole
    (fun c t => by rw [RDat.familyOf_self]; exact howed c t) (fun _ => iprop(emp))
    (initOf (cells (pin pcs a) (kit.to₀.cellOf_inj a)) (launchToks (pin pcs a) (kit.to₀.cellOf_inj a)))
    ?_ (fun c b => V₀ c (Proc.devRef .tc b)) hmain ?_ hpf
    (fun c => iprop(∃ r, prngReg c r)) (fun c => iprop(∃ r, prngReg c r))
    (fun c => unscopedRestP (Ix := Unit) (Name := ℕ) (U := UR sig nD τ) (Lvl := ℕ) (pcs p).pre (pin pcs a p).spec c (fun b => V₀ c (Proc.devRef .tc b)))
    (fun c => unscopedRestP (Ix := Unit) (Name := ℕ) (U := UR sig nD τ) (Lvl := ℕ) (pcs p).pre (pin pcs a p).spec c (afterTail pcs a dats p V₀ opss c))
    ?_ ?_ ?_ ?_
    (fun c s => ∀ b ∈ restRefsP sig (pcs p).pre (pin pcs a p).spec, s.mem ((c.tc : Thread nD τ).loc b) = afterTail pcs a dats p V₀ opss c b)
    ?_ ?_
  · iintro H
    imodintro
    isplitl [H]
    · iapply (show (ownU _ : sProp 𝕄) ⊢ BI.own (emb₁ (initOf (cells (pin pcs a) (kit.to₀.cellOf_inj a)) (launchToks (pin pcs a) (kit.to₀.cellOf_inj a)))) from .rfl)
      iexact H
    · iapply (show (BI.emp : sProp 𝕄) ⊢ bigSep Finset.univ (fun _ : Dev nD => (BI.emp : sProp 𝕄)) from by rw [BI.bigSep_emp_const])
      iempintro
  · intro c
    rw [RDat.familyOf_self]
    exact (rdat c).arrays_split_shared kit.to₀.sharedIn kit.to₀.arr_whole
      (fun w hw => (rdat c).q_eq_shareOf_of_share_full kit.win.arr_inj (hshare c) w hw) _ _ (hA c)
  · intro c
    iintro ⟨HU, -, -, Hp, -⟩
    imodintro
    isplitl [Hp]
    · iexists _; iexact Hp
    · iexact HU
  · intro c
    rw [RDat.familyOf_self]
    refine Entails.trans ?_ (hin c)
    unfold ΦA
    iintro ⟨Hp, -, Hr⟩
    isplitl [Hr] <;> iassumption
  · intro c
    rw [RDat.familyOf_self]
    refine (hout c).trans ?_
    rw [ownSems0_none]
    unfold ΦA
    iintro ⟨Hr, Hp⟩
    isplitl [Hp]
    · iexact Hp
    isplitr
    · iempintro
    · iexact Hr
  · intro c Q'
    iintro ⟨Hk, Hb, Ha, HZ⟩
    ihave Ha := (arrays_end pcs a dats p rdat hdet c) $$ Ha
    icases Ha with ⟨%h, Ha⟩
    have hB : (rdat c).arrays (fun w => (dats p c).arrAt w (pin pcs a p).N)
        = arrBufs (pin pcs a p).spec c (fun b => withArrays (pin pcs a p).spec c (V₀ c) (fun w => (dats p c).arrAt w (pin pcs a p).N) (Proc.devRef .tc b)) :=
      ((rdat c).arrBufs_eq_arrays kit.to₀.sharedIn kit.to₀.arr_whole
        (fun w hw => (rdat c).q_eq_shareOf_of_share_full kit.win.arr_inj (hshare c) w hw) _ _ fun w =>
          (withArrays_arr_shared (pin pcs a p).spec c (V₀ c) _
            ((rdat c).ArrAt_sharedIn kit.to₀.sharedIn (V₀ c) (hA c) (pin pcs a p).N _ h) w).symm).symm
    iapply (tail_seqs_bufs_b pcs defs₀ 𝒱₀ (pcs p).pre (pin pcs a p).spec c (V₀ c) (fun w => (dats p c).arrAt w (pin pcs a p).N) opss hsub hfresh hkeep Q')
    isplitl [Hk]
    · iintro ⟨Hb, Ha, Hu⟩
      iapply Hk
      isplitl [Hb]
      · iexact Hb
      isplitl [Ha]
      · iapply (end_arrays pcs a p rdat c _ h)
        iapply (Entails.of_eq hB.symm)
        iexact Ha
      · iexact Hu
    · isplitl [Hb]
      · iexact Hb
      isplitl [Ha]
      · iapply (Entails.of_eq hB)
        iexact Ha
      · iexact HZ
  · intro c s'
    iintro ⟨-, HU, HSI⟩
    unfold unscopedRestP
    imodintro
    iapply (pointsTo_read_all (restRefsP sig (pcs p).pre (pin pcs a p).spec) (fun b => (c.tc : Thread nD τ).loc b) (afterTail pcs a dats p V₀ opss c) s')
    isplitl [HU] <;> iassumption
  · intro s h hz
    refine ⟨fun c => ⟨fun w => ?_, rest_of_restP (pcs p).pre (pin pcs a p).spec (a p).1 c (afterTail pcs a dats p V₀ opss c) s (hpf' c) (h c).2.1 (h c).2.2⟩, hz⟩
    exact congrFun (hdet c _ fun w => by simpa only [RDat.familyOf_self] using (h c).1 w) w

end Cert.Tail

end
-- ==== Proof.NormRun.lean ====
/-
  The region of the output projection with its closing normalization: at each of the eight column steps of a row block the
  kernel fills 512 more columns of the same staged block, the last one normalizes the rows, and only then is the block written
  back. Between write-backs the block is described on its filled columns only.
-/
module

public import proofs.«01_k».proof.Proof.NormBody
public import proofs.«01_k».proof.Proof.Tail
public import proofs.«01_k».proof.Proof.Dense
public import Idealize.ShloMosaic.Lib.Pipeline.DatRel
public import Idealize.ShloMosaic.Lib.Pipeline.Quiescent
public import Idealize.ShloMosaic.Lib.Pipeline.FrameBody
public import Idealize.ShloMosaic.Lib.Claim

@[expose] public section

set_option maxRecDepth 16384

noncomputable section

namespace Cert.Kernel5Ideal.Body

open Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 128 := lt_of_lt_of_eq t.isLt (by decide +kernel)
theorem coord1 : ∀ t : Fin cfg0.N, (grid0.coords t 1).val = t.val % 8 := (by decide +kernel : ∀ t : Fin grid0.N, _)

/-- The `k`-th column step of the row block that point `t` works on. -/
def point (t : Fin cfg0.N) (k : ℕ) : Fin cfg0.N := ⟨(8 * (t.val / 8) + k) % 128, lt_of_lt_of_eq (Nat.mod_lt _ (by decide)) (by decide +kernel)⟩

theorem point_self (t : Fin cfg0.N) : point t (t.val % 8) = t := by
  have h := lt_N t
  apply Fin.ext
  show (8 * (t.val / 8) + t.val % 8) % 128 = t.val
  omega

/-- The row block of residual plus gated product, all its columns: the eight column steps side by side. -/
def whole (c : Dev nD) (t : Fin cfg0.N) : Vec F S512x4096 .f32 := fun y =>
  proj (iblk m c 0 (point t ((y 1).val / 512))) (iblk m c 1 (point t ((y 1).val / 512))) (iblk m c 2 (point t ((y 1).val / 512)))
    (iblk m c 3 (point t ((y 1).val / 512))) (ix2 (n0 := 512) (n1 := 512) (y 0) ⟨(y 1).val % 512, Nat.mod_lt _ (by decide)⟩)

/-- Two points of one row block have the same whole block. -/
theorem whole_congr (c : Dev nD) (t t' : Fin cfg0.N) (h : t'.val / 8 = t.val / 8) : whole m c t' = whole m c t := by
  have e : point t' = point t := funext fun k => Fin.ext (congrArg (fun q => (8 * q + k) % 128) h)
  unfold whole
  rw [e]

/-- What the staged row block holds after point `t`: the filled columns, and at the last column step the normalized rows. -/
def rel (c : Dev nD) (t : Fin cfg0.N) (X : Vec F S512x4096 .f32) : Prop :=
  if t.val % 8 = 7 then X = normed (whole m c t) (iblk m c 4 t)
  else ∀ y : S512x4096.Idx, (y 1).val < 512 * (t.val % 8 + 1) → X y = whole m c t y

/-- Filling the columns of step `n` extends what was right of the first `512 * n` columns by those. -/
theorem part_eq (n : ℕ) (z : FVec F S512x512 .f32) (Y W : Vec F S512x4096 .f32)
    (hY : n = 0 ∨ ∀ y : S512x4096.Idx, (y 1).val < 512 * n → Y y = W y)
    (hz : ∀ y : S512x4096.Idx, (y 1).val / 512 = n → W y = z (ix2 (n0 := 512) (n1 := 512) (y 0) ⟨(y 1).val % 512, Nat.mod_lt _ (by decide)⟩))
    (y : S512x4096.Idx) (hy : (y 1).val < 512 * (n + 1)) : part n z Y y = W y := by
  unfold part VecWindow.put
  by_cases h : (y 1).val < 512 * n
  · rw [dif_neg]
    · rcases hY with rfl | hY
      · omega
      · exact hY y h
    · intro hh
      have h1 := (hh 1).1
      have e : (![0, 512 * n] : Fin 2 → ℕ) 1 = 512 * n := rfl
      have h1' : 512 * n ≤ (y 1).val := h1
      omega
  · have hd : (y 1).val / 512 = n := by omega
    have hm : (y 1).val % 512 = (y 1).val - 512 * n := by omega
    have y0 : (y 0).val < 512 := (y 0).isLt
    have hin : ∀ a, (![0, 512 * n] : Fin 2 → ℕ) a ≤ (y a).val ∧ (y a).val < (![0, 512 * n] : Fin 2 → ℕ) a + S512x512.size a := by
      intro a
      obtain rfl | rfl : a = 0 ∨ a = 1 := by
        obtain ⟨a, ha⟩ := a
        have : a < 2 := ha
        obtain rfl | rfl : a = 0 ∨ a = 1 := by omega
        · exact .inl rfl
        · exact .inr rfl
      · exact ⟨Nat.zero_le _, lt_of_lt_of_eq y0 (Nat.zero_add 512).symm⟩
      · refine ⟨Nat.le_of_not_lt h, ?_⟩
        show (y 1).val < 512 * n + 512
        omega
    rw [dif_pos hin, hz y hd]
    refine congrArg z (funext fun a => Fin.ext ?_)
    obtain rfl | rfl : a = 0 ∨ a = 1 := by
      obtain ⟨a, ha⟩ := a
      have : a < 2 := ha
      obtain rfl | rfl : a = 0 ∨ a = 1 := by omega
      · exact .inl rfl
      · exact .inr rfl
    · show (y 0).val - 0 = (y 0).val
      omega
    · show (y 1).val - 512 * n = (y 1).val % 512
      omega

/-- One column step meets the description, from a block that met it at the step before. -/
theorem rel_step (c : Dev nD) (t : Fin cfg0.N) (Y : Vec F S512x4096 .f32)
    (hY : t.val % 8 = 0 ∨ ∀ y : S512x4096.Idx, (y 1).val < 512 * (t.val % 8) → Y y = whole m c t y) :
    rel m c t (step (t.val % 8) (iblk m c 0 t) (iblk m c 1 t) (iblk m c 2 t) (iblk m c 3 t) (iblk m c 4 t) Y) := by
  have key := part_eq (t.val % 8) (proj (iblk m c 0 t) (iblk m c 1 t) (iblk m c 2 t) (iblk m c 3 t)) Y (whole m c t) hY (fun y hy => by
    unfold whole
    rw [hy, point_self])
  unfold rel step
  by_cases h : t.val % 8 = 7
  · rw [if_pos h, if_pos h]
    refine congrArg (normed · _) (funext fun y => key y ?_)
    have : (y 1).val < 4096 := (y 1).isLt
    omega
  · rw [if_neg h, if_neg h]
    exact key

/-- The exact data: each input at its block, the row block at its normalized rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => normed (whole m c t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = normed (whole m c t) (iblk m c 4 t) := by dsimp only [dats]

/-- Only the result's window is described by a relation. -/
def loose : Fin cfg0.W → Bool
  | ⟨5, _⟩ => true
  | _ => false

/-- The description of a window's block. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => rel m c t X

theorem Rl5 (c : Dev nD) (t : Fin cfg0.N) (X : Vec F S512x4096 .f32) : Rl m c 5 t X = rel m c t X := by dsimp only [Rl]

/-- What the relational data let the result's staged block hold when a point begins is right on the columns already filled. -/
theorem found (c : Dev nD) (t : Fin cfg0.N) (Y : Vec F S512x4096 .f32) (h : ((dats m 0 c).toRRel loose (Rl m c)).Finds 5 t Y) :
    t.val % 8 = 0 ∨ ∀ y : S512x4096.Idx, (y 1).val < 512 * (t.val % 8) → Y y = whole m c t y := by
  by_cases h0 : t.val % 8 = 0
  · exact .inl h0
  right
  have hlt := lt_N t
  have ht : t.val ≠ 0 := fun e => h0 (by rw [e])
  rcases (((dats m 0 c).toRRel loose (Rl m c)).finds_of_pos (w := 5) rfl ht Y).mp h with hf | hl
  · have := (flush0_5 _).mp hf
    have e : (t.val - 1) % 8 = 7 := this
    omega
  · have hr := (dats m 0 c).toRRel_leaves (w := 5) rfl hl
    rw [Rl5] at hr
    unfold rel at hr
    have e7 : ¬ (t.val - 1) % 8 = 7 := by omega
    have hr' := (if_neg (c := (t.val - 1) % 8 = 7) e7) ▸ hr
    intro y hy
    rw [whole_congr m c t ⟨t.val - 1, Nat.lt_of_le_of_lt (Nat.sub_le _ _) t.isLt⟩ (by show (t.val - 1) / 8 = t.val / 8; omega)] at hr'
    refine hr' y ?_
    show (y 1).val < 512 * ((t.val - 1) % 8 + 1)
    omega

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel loose (Rl m c)).Finds 5 t Y⌝ ∗ owns (c : Thread nD τ) (st0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rl m c 5 t X⌝ ∗ owns (c : Thread nD τ) (st0_5 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c)]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩, ⟨%Y, %hY, H5⟩⟩
  iapply (sound c Set.univ (grid0.coords t) _ _ _ _ _ _ _ _ _ _ _ _ (iblk m c 0 t) (iblk m c 1 t) (iblk m c 2 t) (iblk m c 3 t) (iblk m c 4 t) Y _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro
  rw [Rl5, coord1]
  exact rel_step m c t Y (found m c t Y hY)

/-- The body table's row at a point is the block kernel there. -/
theorem defs₀_row (t : Fin cfg0.N) : defs₀ (F := F) .tc cfg0.body (cfg0.bodyArgs t (cfg0.slots t)) = bodyAt0 t := by
  unfold defs₀; rw [Defs.onTc_tc]

/-- The library's body obligation with the result's window held to its description. -/
theorem body_obligation (c : Dev nD) :
    BodyObligationRel (dats (F := F) m 0 c) (defs₀ (F := F)) Variants.none () Set.univ loose (Rl m c) := fun t => by
  rw [bigSep_W0, bigSep_W0, defs₀_row]
  exact triple_restated (sound_body m c t) rfl .rfl fun _ => .rfl

/-- The relation determines what every array ends with. -/
theorem determined (c : Dev nD) (A : (w : Fin cfg0.W) → Buf (Elt F) ((cfg0.win w).arr.view.loc (c.tc : Thread nD τ)))
    (hA : ∀ w, ((dats m 0 c).toRRel loose (Rl m c)).ArrAt w cfg0.N (A w)) : A = fun w => (dats m 0 c).arrAt w cfg0.N := by
  funext w
  obtain ⟨X, hX, hx⟩ := (hA w).exists_exact
  refine hx (dats m 0 c).after fun u hu hf => ?_
  have hl := hX u hu hf
  match w with
  | ⟨0, _⟩ => exact absurd hf Bool.false_ne_true
  | ⟨1, _⟩ => exact absurd hf Bool.false_ne_true
  | ⟨2, _⟩ => exact absurd hf Bool.false_ne_true
  | ⟨3, _⟩ => exact absurd hf Bool.false_ne_true
  | ⟨4, _⟩ => exact absurd hf Bool.false_ne_true
  | ⟨5, _⟩ =>
    have hr := (dats m 0 c).toRRel_leaves (w := 5) rfl hl
    rw [Rl5] at hr
    unfold rel at hr
    rw [if_pos ((flush0_5 u).mp hf)] at hr
    exact (after5 m c u).trans hr.symm

set_option backward.isDefEq.respectTransparency.types false in
set_option maxHeartbeats 800000 in
/-- The launch: the run ends with the arrays at the exact data's, the later host lines run, and every counter at zero. -/
theorem run_main_quiescent : θ_run defs (onTc (τ := τ) (main (F := F))) ⟨m, fun _ => 0, ρ⟩
    (fun r => (Pipeline.FramePost cfgs (dats m) 0 (Pipeline.afterTail₀ cfgs (dats m) 0 (V0 m) [hostOps1])) r ∧ r.2.sem = fun _ => 0) :=
  Tail.run_determined (fun q => (cfgs q).toPCfg (Val := Elt F)) (fun q => (cfgs q).toPCfg_adm) (dats m) (0 : Fin 1) launch0.toP defs₀ Variants.none
    (fun c => (dats m 0 c).toRRel loose (Rl m c)) m ρ main
    (hbody := fun c => (body_obligation m c).toRRel) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := fun _ k => k.elim0) (hpf' := fun _ k => k.elim0)
    (hin := fun _ => .rfl) (hout := fun _ => .rfl) (hdet := determined m)

theorem run_main : θ_run defs (onTc (τ := τ) (main (F := F))) ⟨m, fun _ => 0, ρ⟩
    (Pipeline.FramePost cfgs (dats m) 0 (Pipeline.afterTail₀ cfgs (dats m) 0 (V0 m) [hostOps1])) :=
  (θ_run defs _ _).mono (fun _ h => h.1) (run_main_quiescent m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel5Ideal.Body

end
-- ==== Proof.NormOut.lean ====
/-
  The output projection with its closing normalization: what the region's result array holds and what the run leaves in the
  program's result.
-/
module

public import proofs.«01_k».proof.Proof.NormRun
public import proofs.«01_k».proof.Proof.Out
public import Idealize.ShloMosaic.Lib.Pipeline.ValueKit
public import Idealize.ShloMosaic.Lib.Tactic
public import Idealize.ShloMosaic.Lib.StableHlo.Run

@[expose] public section

set_option maxRecDepth 65536

noncomputable section

namespace Cert.Kernel5Ideal.Norm

open Cert.Kernel5Ideal Cert.Kernel5Ideal.Gen Cert.Kernel5Ideal.Body Idealize.ShloMosaic Idealize.ShloMosaic.TcCoe Idealize.SL.Sem Cert.Dense
open Cert.Kernel4Ideal.Out (out)

/-- A row of the projection over the root of its mean square plus the epsilon, scaled column by column. -/
def normOut (a : S8192x4096.Idx → EReal) (w : S4096x4096.Idx → EReal) (x : S2x4096x4096.Idx → EReal) (g : S2x1x12288.Idx → EReal)
    (s : S4096.Idx → EReal) (r c : ℕ) : EReal :=
  out a w x g r c * Ideal.rsqrt (Ideal.div (∑ k : Fin 4096, out a w x g r k.val * out a w x g r k.val) (Ideal.ofBits .f32 0x45800000#32)
    + Ideal.ofBits .f32 0x358637BD#32) * s (ix1 (Fin.ofNat 4096 c))

theorem proj_apply (a : FVec Ideal S512x4096 .bf16) (w : FVec Ideal S4096x512 .bf16) (x : FVec Ideal S512x512 .f32)
    (g : FVec Ideal S1x1x512 .f32) (r : Fin 512) (c : Fin 512) :
    proj (F := Ideal) a w x g (ix2 r c) = x (ix2 r c) + g (ix3 0 0 c) * ∑ k : Fin 4096, a (ix2 r k) * w (ix2 k c) := by
  pointwise [proj]

theorem normed_apply (z : FVec Ideal S512x4096 .f32) (s : FVec Ideal S1x4096 .f32) (r : Fin 512) (c : Fin 4096) :
    normed (F := Ideal) z s (ix2 r c) = z (ix2 r c) * Ideal.rsqrt (Ideal.div (∑ k : Fin 4096, z (ix2 r k) * z (ix2 r k)) (Ideal.ofBits .f32 0x45800000#32)
      + Ideal.ofBits .f32 0x358637BD#32) * s (ix2 0 c) := by
  pointwise [normed]

theorem index0 : ∀ t : Fin cfg0.N, win0_0.index t = ![(grid0.coords t 0).val, 0] :=
  (by decide +kernel : ∀ t : Fin grid0.N, _)
theorem index1 : ∀ t : Fin cfg0.N, win0_1.index t = ![0, (grid0.coords t 1).val] :=
  (by decide +kernel : ∀ t : Fin grid0.N, _)
theorem index2 : ∀ t : Fin cfg0.N, win0_2.index t = ![(grid0.coords t 0).val, (grid0.coords t 1).val] :=
  (by decide +kernel : ∀ t : Fin grid0.N, _)
theorem index3 : ∀ t : Fin cfg0.N, win0_3.index t = ![(grid0.coords t 0).val / 8, 0, 16 + (grid0.coords t 1).val] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![(grid0.coords t 0).val, 0] :=
  (by decide +kernel : ∀ t : Fin grid0.N, _)
theorem coord0 : ∀ t : Fin cfg0.N, (grid0.coords t 0).val = t.val / 8 :=
  (by decide +kernel : ∀ t : Fin grid0.N, _)
theorem coord0_lt (t : Fin cfg0.N) : (grid0.coords t 0).val < 16 := (grid0.coords t 0).isLt
theorem coord1_lt (t : Fin cfg0.N) : (grid0.coords t 1).val < 8 := (grid0.coords t 1).isLt

/-- The column steps of one row block are on its rows, -/
theorem point_row (t : Fin cfg0.N) (k : ℕ) (hk : k < 8) : (grid0.coords (point t k) 0).val = (grid0.coords t 0).val := by
  have h := lt_N t
  rw [coord0, coord0]
  show (8 * (t.val / 8) + k) % 128 / 8 = t.val / 8
  omega
/-- each on its own columns. -/
theorem point_col (t : Fin cfg0.N) (k : ℕ) (hk : k < 8) : (grid0.coords (point t k) 1).val = k := by
  have h := lt_N t
  rw [coord1]
  show (8 * (t.val / 8) + k) % 128 % 8 = k
  omega

variable (m : (ℓ : Loc nD τ sig) → Buf (Elt Ideal) ℓ) (ρ : Dev nD → PrngReg)

/-- The attention's rows. -/
abbrev argA (c : Dev nD) : S8192x4096.Idx → EReal := m ((c : Thread nD τ).loc main_arg0)
/-- The weight. -/
abbrev argW (c : Dev nD) : S4096x4096.Idx → EReal := m ((c : Thread nD τ).loc main_arg1)
/-- The residual. -/
abbrev argX (c : Dev nD) : S2x4096x4096.Idx → EReal := m ((c : Thread nD τ).loc main_arg2)
/-- The modulation, whose last third is the gate. -/
abbrev argG (c : Dev nD) : S2x1x12288.Idx → EReal := m ((c : Thread nD τ).loc main_arg3)
/-- The closing norm's scale. -/
abbrev argS (c : Dev nD) : S4096.Idx → EReal := m ((c : Thread nD τ).loc main_arg4)

/-- The region finds the weight in its second operand, -/
theorem V_v0 (c : Dev nD) : V m c main_v0 = argW m c := by
  unfold V V0
  simp only [List.flatten_cons, List.flatten_nil, List.append_nil]
  after_results_simp
  rfl
/-- the flattened residual in its third, -/
theorem V_v1 (c : Dev nD) : V m c main_v1 = shapeCast S8192x4096 (argX m c) shapeCasts_S2x4096x4096_S8192x4096 := by
  unfold V V0
  simp only [List.flatten_cons, List.flatten_nil, List.append_nil]
  after_results_simp
  rfl
/-- and the scale as one row in its fifth. -/
theorem V_v2 (c : Dev nD) : V m c main_v2 = shapeCast S1x4096 (argS m c) shapeCasts_S4096_S1x4096 := by
  unfold V V0
  simp only [List.flatten_cons, List.flatten_nil, List.append_nil]
  after_results_simp
  rfl

theorem block0 (c : Dev nD) (t : Fin cfg0.N) (r : Fin 512) (k : Fin 4096) :
    iblk m c 0 t (ix2 r k) = at2 (argA m c) ((grid0.coords t 0).val * 512 + r.val) k.val := by
  have := coord0_lt t
  rw [at2_fin (argA m c) (show (grid0.coords t 0).val * 512 + r.val < 8192 by omega) k.isLt]
  blk_simp [iblk]
  rw [V_main_arg0]
  congr 1
  blk_ext [index0]

theorem block1 (c : Dev nD) (t : Fin cfg0.N) (k : Fin 4096) (d : Fin 512) :
    iblk m c 1 t (ix2 k d) = at2 (argW m c) k.val ((grid0.coords t 1).val * 512 + d.val) := by
  have := coord1_lt t
  rw [at2_fin (argW m c) k.isLt (show (grid0.coords t 1).val * 512 + d.val < 4096 by omega)]
  blk_simp [iblk]
  rw [V_v0]
  congr 1
  blk_ext [index1]

theorem block2 (c : Dev nD) (t : Fin cfg0.N) (r : Fin 512) (d : Fin 512) :
    iblk m c 2 t (ix2 r d) = flat (argX m c) ((grid0.coords t 0).val * 512 + r.val) ((grid0.coords t 1).val * 512 + d.val) := by
  have := coord0_lt t
  have := coord1_lt t
  have h : iblk m c 2 t (ix2 r d) = V m c main_v1 (ix2 ⟨(grid0.coords t 0).val * 512 + r.val, by omega⟩
      ⟨(grid0.coords t 1).val * 512 + d.val, by omega⟩) := by
    blk_simp [iblk]
    congr 1
    blk_ext [index2]
  rw [h, V_v1]
  exact reshape_flat _ _ _ _

theorem block3 (c : Dev nD) (t : Fin cfg0.N) (d : Fin 512) :
    iblk m c 3 t (ix3 0 0 d) = at3 (argG m c) ((grid0.coords t 0).val / 8) 0 (8192 + ((grid0.coords t 1).val * 512 + d.val)) := by
  have := coord0_lt t
  have := coord1_lt t
  rw [at3_fin (argG m c) (show (grid0.coords t 0).val / 8 < 2 by omega) (show 0 < 1 by omega)
    (show 8192 + ((grid0.coords t 1).val * 512 + d.val) < 12288 by omega)]
  blk_simp [iblk]
  rw [V_main_arg3]
  congr 1
  blk_ext [index3]

theorem block4 (c : Dev nD) (t : Fin cfg0.N) (d : Fin 4096) : iblk m c 4 t (ix2 0 d) = argS m c (ix1 d) := by
  have h : iblk m c 4 t (ix2 0 d) = V m c main_v2 (ix2 0 d) := by
    blk_simp [iblk]
    congr 1
    blk_ext [index4]
  rw [h, V_v2]
  refine shapeCast_apply (argS m c) _ _ _ ?_
  rw [Shape.rowMajor_val_two, Shape.rowMajor_val_one]
  show d.val = 0 * 4096 + d.val
  omega

/-- A whole row block is the projection's rows. -/
theorem whole_apply (c : Dev nD) (t : Fin cfg0.N) (r : Fin 512) (d : Fin 4096) :
    whole m c t (ix2 r d) = out (argA m c) (argW m c) (argX m c) (argG m c) ((grid0.coords t 0).val * 512 + r.val) d.val := by
  have hd := d.isLt
  have h0 := coord0_lt t
  have hk : d.val / 512 < 8 := by omega
  show proj (iblk m c 0 (point t (d.val / 512))) (iblk m c 1 (point t (d.val / 512))) (iblk m c 2 (point t (d.val / 512)))
    (iblk m c 3 (point t (d.val / 512))) (ix2 r ⟨d.val % 512, Nat.mod_lt _ (by decide)⟩) = _
  rw [proj_apply, block2, block3]
  simp only [block0, block1]
  rw [point_row t _ hk, point_col t _ hk]
  show flat _ _ (d.val / 512 * 512 + d.val % 512) + at3 _ _ 0 (8192 + (d.val / 512 * 512 + d.val % 512))
    * (∑ k : Fin 4096, at2 _ _ k.val * at2 _ k.val (d.val / 512 * 512 + d.val % 512)) = _
  rw [show d.val / 512 * 512 + d.val % 512 = d.val by omega]
  unfold out
  rw [show ((grid0.coords t 0).val * 512 + r.val) / 4096 = (grid0.coords t 0).val / 8 by omega]

/-- The region's result array is the normalized projection. -/
theorem array_eq (c : Dev nD) : (dats m 0 c).arrAt 5 cfg0.N
    = fun y : S8192x4096.Idx => normOut (argA m c) (argW m c) (argX m c) (argG m c) (argS m c) (y 0).val (y 1).val := by
  refine (dats m 0 c).arrAt_eq_of_covers 5 _ (by decide +kernel) fun t hf y => ?_
  blk_simp [index5]
  rw [after5]
  obtain ⟨r, d, rfl⟩ := exists_ix2 y
  rw [normed_apply, block4]
  simp only [whole_apply]
  show _ = normOut (argA m c) (argW m c) (argX m c) (argG m c) (argS m c) ((grid0.coords t 0).val * 512 + r.val) d.val
  unfold normOut
  rw [ofNat_val]

/-- The reshape after the region leaves the result array, its rows split into the two sequences. -/
theorem tail_eq (c : Dev nD) : Pipeline.afterTail₀ cfgs (dats m) 0 (V0 m) [hostOps1] c main_v4
    = shapeCast S2x4096x4096 ((dats m 0 c).arrAt 5 cfg0.N) shapeCasts_S8192x4096_S2x4096x4096 := by
  unfold Pipeline.afterTail₀
  simp only [List.flatten_cons, List.flatten_nil, List.append_nil]
  after_results_simp
  exact congrArg (fun x => shapeCast S2x4096x4096 x shapeCasts_S8192x4096_S2x4096x4096)
    (Pipeline.withArrays_arr spec0 launch0.win.arr_inj c (V0 m c) (fun w => (dats m 0 c).arrAt w cfg0.N) 5)

/-- After every run the result is the normalized projection, and the arguments are unchanged. -/
theorem run_result : θ_run defs (onTc (τ := τ) (main (F := Ideal))) ⟨m, fun _ => 0, ρ⟩ (fun r => ∀ c : Dev nD,
      r.2.mem ((c : Thread nD τ).loc main_v4)
        = (fun y : S2x4096x4096.Idx => normOut (argA m c) (argW m c) (argX m c) (argG m c) (argS m c) ((y 0).val * 4096 + (y 1).val) (y 2).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  refine (θ_run defs _ _).mono (fun r h c => ⟨?_, h.2 c⟩) (θ_run_and (run_main m ρ) (frame_of m ρ (dats m) (A_eq m) (run_main m ρ)))
  refine ((h.1 c).2 main_v4 (Pipeline.mem_restRefs_of main_v4 (by decide) (by decide))).trans ((tail_eq m c).trans ?_)
  rw [array_eq]
  funext y
  obtain ⟨b, t, d, rfl⟩ := exists_ix3 y
  have ht := t.isLt
  refine (unrows_apply _ _ b t d).trans ?_
  rw [at2_fin _ (show b.val * 4096 + t.val < 8192 by omega) d.isLt]
  rfl

end Cert.Kernel5Ideal.Norm
-- ==== Proof.NormRef.lean ====
/-
  What the reference of the output projection with its closing normalization computes: the kernel's, entry by entry.
-/
module

public import proofs.«01_k».proof.Proof.Gen.Reference5Ideal.Read
public import proofs.«01_k».proof.Proof.OutRef
public import proofs.«01_k».proof.Proof.NormOut

@[expose] public section

set_option maxRecDepth 65536

noncomputable section

namespace Cert.Reference5Ideal.Norm

open Cert.Reference5Ideal Cert.Reference5Ideal.Gen Cert.Reference5Ideal.Read Idealize.ShloMosaic Idealize.ShloMosaic.TcCoe
open Idealize.SL.Sem Cert.Dense Cert.Kernel5Ideal.Norm
open Cert.Kernel4Ideal.Out (out)

variable (a : FVec Ideal S8192x4096 .bf16) (w : FVec Ideal S4096x4096 .f32) (x : FVec Ideal S2x4096x4096 .f32)
  (g : FVec Ideal S2x1x12288 .f32) (s : FVec Ideal S4096 .f32)

/-- Before the normalization it is the first layer's output projection. -/
theorem hidden_apply (b : Fin 2) (t c : Fin 4096) :
    val_main_v6 (F := Ideal) a w x g (ix3 b t c) = out a w x g (b.val * 4096 + t.val) c.val :=
  congrFun (Cert.Reference4Ideal.Out.result_eq a w x g) (ix3 b t c)

theorem mean_apply (b : Fin 2) (t : Fin 4096) :
    val_main_v8 (F := Ideal) a w x g (ix2 b t)
      = ∑ k : Fin 4096, val_main_v6 (F := Ideal) a w x g (ix3 b t k) * val_main_v6 (F := Ideal) a w x g (ix3 b t k) := by
  pointwise [val_main_v8, val_main_v7, val_main_cst]

theorem root_apply (b : Fin 2) (t c : Fin 4096) :
    val_main_v15 (F := Ideal) a w x g (ix3 b t c)
      = Ideal.rsqrt (Ideal.div (val_main_v8 (F := Ideal) a w x g (ix2 b t)) (Ideal.ofBits .f32 0x45800000#32) + Ideal.ofBits .f32 0x358637BD#32) := by
  pointwise [val_main_v15, val_main_v14, val_main_v13, val_main_v12, val_main_v11, val_main_v10, val_main_v9, val_main_cst_0, val_main_cst_1]

theorem scale_apply (b : Fin 2) (t c : Fin 4096) : val_main_v18 (F := Ideal) s (ix3 b t c) = s (ix1 c) := by
  pointwise [val_main_v18, val_main_v17]

/-- The reference's result is the normalized projection. -/
theorem result_eq : val_main_v19 (F := Ideal) a w x g s
    = fun y : S2x4096x4096.Idx => normOut a w x g s ((y 0).val * 4096 + (y 1).val) (y 2).val := by
  funext y
  obtain ⟨b, t, c, rfl⟩ := exists_ix3 y
  show val_main_v6 (F := Ideal) a w x g (ix3 b t c) * val_main_v15 (F := Ideal) a w x g (ix3 b t c) * val_main_v18 (F := Ideal) s (ix3 b t c)
    = normOut a w x g s (b.val * 4096 + t.val) c.val
  rw [root_apply, scale_apply, mean_apply]
  simp only [hidden_apply]
  unfold normOut
  rw [ofNat_val]

end Cert.Reference5Ideal.Norm
-- ==== Proof.NormFrame.lean ====
/-
  The output projection with its closing normalization, as the kernel's own program: it is the idealized program's text, so the
  run of the one is the run of the other.
-/
module

public import proofs.«01_k».proof.Defs
public import proofs.«01_k».proof.Proof.NormRun
public import proofs.«01_k».proof.Proof.Gen.Kernel5

@[expose] public section

set_option maxRecDepth 16384

noncomputable section

namespace Cert.Kernel5.Body

open Idealize.ShloMosaic Idealize.ShloMosaic.TcCoe Idealize.SL.Sem

variable {F : FTy → Type} [FloatOps F]

/-- The two block kernels are one. -/
theorem kernel_eq : @Cert.Kernel5.cc0_out_proj_norm F _ Cert.Kernel5.Gen.facts = @Cert.Kernel5Ideal.cc0_out_proj_norm F _ Cert.Kernel5Ideal.Gen.facts := by
  unfold Cert.Kernel5.cc0_out_proj_norm Cert.Kernel5Ideal.cc0_out_proj_norm
  rfl

/-- So are the tables of block kernels, -/
theorem table_eq : @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg Defs.onTc (funext fun l => funext fun a => ?_)
  match l, a with
  | ⟨0, _⟩, (t, s) =>
    show @Cert.Kernel5.cc0_out_proj_norm F _ Cert.Kernel5.Gen.facts _ _ _ _ _ _ _ _ _ _ _ _ _
      = @Cert.Kernel5Ideal.cc0_out_proj_norm F _ Cert.Kernel5Ideal.Gen.facts _ _ _ _ _ _ _ _ _ _ _ _ _
    rw [kernel_eq]
    rfl
  | ⟨_ + 1, h⟩, _ => exact absurd h (Nat.not_lt.2 (Nat.le_add_left _ _))

/-- and the whole tables. -/
theorem defs_eq : @Cert.Kernel5.defs F _ Cert.Kernel5.Gen.facts = @Cert.Kernel5Ideal.defs F _ Cert.Kernel5Ideal.Gen.facts := by
  unfold Cert.Kernel5.defs Cert.Kernel5Ideal.defs
  rw [table_eq]
  rfl

/-- The kernel's program terminates, leaves its arguments unchanged and every counter at zero. -/
theorem frame : Cert.quiescent_Kernel5 (hKernel5 := Cert.Kernel5.Gen.facts) := by
  intro m ρ _
  rw [defs_eq]
  exact Cert.Kernel5Ideal.Body.frame (F := Bits) m ρ

end Cert.Kernel5.Body

end
-- ==== Proof.WinTile.lean ====
/-
  The sliding-window attention's tile, as the kernel computes it: 128 queries of a group of eight heads against the 256
  keys of their own and the previous block, under the window's mask and with the heads' sinks; and the thirty-two stores
  of a grid point, each one head's tile of one block of queries.
-/
module

public import proofs.«01_k».proof.Proof.Gen.Kernel7Ideal.Value
public import Idealize.ShloMosaic.Lib.Tactic
public import Idealize.ShloMosaic.Lib.ValueIdx

@[expose] public section

set_option maxRecDepth 65536

noncomputable section

namespace Cert.Kernel7Ideal.Win

open Cert.Kernel7Ideal Cert.Kernel7Ideal.Gen Idealize.ShloMosaic Idealize.ShloMosaic.TcCoe Idealize.SL.Sem

variable {F : FTy → Type} [FloatOps F] [Named F]

/-! ## One block of queries -/

/-- The mask of 256 keys against 128 queries, keys down, the first query being `d` keys after the first key. -/
def bias (d : BitVec 32) : FVec F S256x128 .f32 :=
  let diff := subi (addi (iota .tc S256x128 32 [1] iota_S256x128_d1_w32) (broadcast S256x128 d))
    (iota .tc S256x128 32 [0] iota_S256x128_d0_w32)
  select (andi (cmpi .sge diff (broadcast S256x128 0#32)) (cmpi .slt diff (broadcast S256x128 128#32)))
    (broadcast S256x128 (Scalar.ofBits .f32 0x00000000#32)) (broadcast S256x128 (Scalar.ofBits .f32 0xFF800000#32))

/-- The mask for each of the eight heads, side by side. -/
def biases (b : FVec F S256x128 .f32) : FVec F S256x1024 .f32 :=
  concatenate S256x1024 1 [⟨S256x128, b⟩, ⟨S256x128, b⟩, ⟨S256x128, b⟩, ⟨S256x128, b⟩, ⟨S256x128, b⟩, ⟨S256x128, b⟩, ⟨S256x128, b⟩,
    ⟨S256x128, b⟩] concatenates_S256x128_S256x128_S256x128_S256x128_S256x128_S256x128_S256x128_S256x128_S256x1024_d1

/-- The eight heads' queries, one head's below another's. -/
def stacked (q : FVec F S1x128x1024 .bf16) : FVec F S1024x128 .bf16 :=
  let q' := shapeCast S128x1024 q shapeCasts_S1x128x1024_S128x1024
  concatenate S1024x128 0 [⟨S128x128, extractStridedSlice S128x128 ![0, 0] q' slices_S128x1024_o0_0_S128x128⟩,
    ⟨S128x128, extractStridedSlice S128x128 ![0, 128] q' slices_S128x1024_o0_128_S128x128⟩,
    ⟨S128x128, extractStridedSlice S128x128 ![0, 256] q' slices_S128x1024_o0_256_S128x128⟩,
    ⟨S128x128, extractStridedSlice S128x128 ![0, 384] q' slices_S128x1024_o0_384_S128x128⟩,
    ⟨S128x128, extractStridedSlice S128x128 ![0, 512] q' slices_S128x1024_o0_512_S128x128⟩,
    ⟨S128x128, extractStridedSlice S128x128 ![0, 640] q' slices_S128x1024_o0_640_S128x128⟩,
    ⟨S128x128, extractStridedSlice S128x128 ![0, 768] q' slices_S128x1024_o0_768_S128x128⟩,
    ⟨S128x128, extractStridedSlice S128x128 ![0, 896] q' slices_S128x1024_o0_896_S128x128⟩]
    concatenates_S128x128_S128x128_S128x128_S128x128_S128x128_S128x128_S128x128_S128x128_S1024x128_d0

/-- The masked scores, keys down and the heads' queries across. -/
def scores (k : FVec F S1x256x128 .bf16) (q : FVec F S1x128x1024 .bf16) (d : BitVec 32) : FVec F S256x1024 .f32 :=
  addf (matmul dot_S256x128_S1024x128_S256x1024_1_1_0_0_n_n none (shapeCast S256x128 k shapeCasts_S1x256x128_S256x128) (stacked q)
    (constant S256x1024 .f32 0x00000000#32)) (biases (bias d))

/-- The sinks in the scores' unit. -/
def sunk (x : FVec F S1x1x1024 .f32) : FVec F S1x1024 .f32 :=
  mulf (shapeCast S1x1024 x shapeCasts_S1x1x1024_S1x1024) (broadcast S1x1024 (Named.named κ "log2e" 0x3FB8AA3B#32))

/-- The maximum of each query's scores and its sink. -/
def peak (s : FVec F S256x1024 .f32) (u : FVec F S1x1024 .f32) : FVec F S1x1024 .f32 :=
  maximumf (shapeCast S1x1024 (multiReduction .maximumf [0] S1024 s 0xFF800000#32 reduces_S256x1024_S1024 (.inl rfl) rfl)
    shapeCasts_S1024_S1x1024) u

/-- The values turned, over sixteen rows of ones. -/
def turned (v : FVec F S1x256x128 .bf16) : FVec F S144x256 .bf16 :=
  concatenate S144x256 0 [⟨S128x256, truncf .bf16 (transpose S128x256 [1, 0]
      (extf .f32 (shapeCast S256x128 v shapeCasts_S1x256x128_S256x128) bitsLt_bf16_f32) transposes_S256x128_p1_0_S128x256) bitsLt_bf16_f32⟩,
    ⟨S16x256, broadcast S16x256 (Scalar.ofBits .bf16 0x3F80#16)⟩] concatenates_S128x256_S16x256_S144x256_d0

/-- The weighted values over the weight sums. -/
def weighed (v : FVec F S1x256x128 .bf16) (s : FVec F S256x1024 .f32) (u : FVec F S1x1024 .f32) : FVec F S144x1024 .f32 :=
  matmul dot_S144x256_S256x1024_S144x1024_1_0_0_1_n_n none (turned v)
    (truncf .bf16 (exp2 (subf s (broadcastTo S256x1024 (peak s u) broadcasts_S1x1024_S256x1024))) bitsLt_bf16_f32)
    (constant S144x1024 .f32 0x00000000#32)

/-- The weighted mean of the values, the sink's weight counted in the sum of the weights. -/
def mean (v : FVec F S1x256x128 .bf16) (s : FVec F S256x1024 .f32) (u : FVec F S1x1024 .f32) : FVec F S128x1024 .f32 :=
  mulf (extractStridedSlice S128x1024 ![0, 0] (weighed v s u) slices_S144x1024_o0_0_S128x1024)
    (broadcastTo S128x1024 (divf (broadcast S1x1024 (Scalar.ofBits .f32 0x3F800000#32))
      (addf (extractStridedSlice S1x1024 ![128, 0] (weighed v s u) slices_S144x1024_o128_0_S1x1024) (exp2 (subf u (peak s u)))))
      broadcasts_S1x1024_S128x1024)

/-- One head's columns of a block lie within the block. -/
theorem slices_head (g : ℕ) : S128x1024.Slices ![0, 128 * (g % 8)] S128x128 :=
  ⟨rfl, by
    intro a
    match a with
    | ⟨0, _⟩ => show 0 + 128 ≤ 128; omega
    | ⟨1, _⟩ => show 128 * (g % 8) + 128 ≤ 1024; omega⟩

/-- One head's output tile: its mean turned, times the gate. -/
def gated (o : FVec F S128x1024 .f32) (z : FVec F S1x128x128 .bf16) (g : ℕ) : FVec F S1x128x128 .bf16 :=
  let z' := extf .f32 (shapeCast S128x128 z shapeCasts_S1x128x128_S128x128) bitsLt_bf16_f32
  shapeCast S1x128x128 (truncf .bf16 (mulf
    (transpose S128x128 [1, 0] (extractStridedSlice S128x128 ![0, 128 * (g % 8)] o (slices_head g)) transposes_S128x128_p1_0_S128x128)
    (mulf z' (logistic z'))) bitsLt_bf16_f32) shapeCasts_S128x128_S1x128x128

/-! ## What a grid point loads and stores -/

/-- Head `g`'s columns of block `n` of queries. -/
abbrev rectZ (n g : ℕ) : Rect S1x512x1024 :=
  Rect.unit ![0, 128 * (n % 4), 128 * (g % 8)] S1x128x128.size (by
    intro a
    match a with
    | ⟨0, _⟩ => show 0 + 1 ≤ 1; omega
    | ⟨1, _⟩ => show 128 * (n % 4) + 128 ≤ 512; omega
    | ⟨2, _⟩ => show 128 * (g % 8) + 128 ≤ 1024; omega)

/-- All columns of block `n` of queries. -/
abbrev rectQ (n : ℕ) : Rect S1x512x1024 :=
  Rect.unit ![0, 128 * (n % 4), 0] S1x128x1024.size (by
    intro a
    match a with
    | ⟨0, _⟩ => show 0 + 1 ≤ 1; omega
    | ⟨1, _⟩ => show 128 * (n % 4) + 128 ≤ 512; omega
    | ⟨2, _⟩ => show 0 + 1024 ≤ 1024; omega)

/-- The first row of block `n` of a grid point, as a word. -/
def start (i : grid0.Coords) (n : ℕ) : BitVec 32 :=
  Scalar.addi (Scalar.muli (BitVec.ofNat 32 (i 2).val) 512#32) (BitVec.ofNat 32 (128 * (n % 4)))

/-- The distance of block `n`'s first query from its first key, as a word. -/
def shift (i : grid0.Coords) (n : ℕ) : BitVec 32 :=
  Scalar.subi (start i n) (Scalar.maxsi (Scalar.subi (start i n) 128#32) 0#32)

/-- The offset of block `n`'s first key lies within the block of keys. -/
theorem keys_inb (i : grid0.Coords) (n : ℕ) : ∀ a, k0_off1 i (BitVec.ofNat 32 (128 * (n % 4))) a + S1x256x128.size a ≤ S1x4096x128.size a := by
  rcases (by omega : n % 4 = 0 ∨ n % 4 = 1 ∨ n % 4 = 2 ∨ n % 4 = 3) with e | e | e | e <;> rw [e]
  · exact k0_off1_inb i 0
  · exact k0_off1_inb i 1
  · exact k0_off1_inb i 2
  · exact k0_off1_inb i 3

/-- The 256 keys of block `n`. -/
abbrev rectK (i : grid0.Coords) (n : ℕ) : Rect S1x4096x128 :=
  Rect.unit (k0_off1 i (BitVec.ofNat 32 (128 * (n % 4)))) S1x256x128.size (keys_inb i n)

section Point

variable (c : Dev nD) (i : grid0.Coords)
  (a3 : Memref sig .tc .vmem S1x512x1024 .bf16) (h3 : a3.IsWhole) (a4 : Memref sig .tc .vmem S1x512x1024 .bf16) (h4 : a4.IsWhole)
  (a5 : Memref sig .tc .vmem S1x4096x128 .bf16) (h5 : a5.IsWhole) (a6 : Memref sig .tc .vmem S1x4096x128 .bf16) (h6 : a6.IsWhole)
  (a7 : Memref sig .tc .vmem S1x1x1024 .f32) (h7 : a7.IsWhole) (a8 : Memref sig .tc .vmem S1x512x1024 .bf16) (h8 : a8.IsWhole)
  (x0 x1 : Vec F S1x512x1024 .bf16) (x2 x3 : Vec F S1x4096x128 .bf16) (x4 : Vec F S1x1x1024 .f32)

/-- The queries of block `n` as loaded from a block held in a staging buffer. -/
abbrev loadQ (n : ℕ) : FVec F S1x128x1024 .bf16 := View.readAt (Elt F) a3.view (rectQ n).toLoadRect (h3.unread x0)

/-- One head's gates of block `n` as loaded. -/
abbrev loadZ (n g : ℕ) : FVec F S1x128x128 .bf16 := View.readAt (Elt F) a4.view (rectZ n g).toLoadRect (h4.unread x1)

/-- The keys or values of block `n` as loaded. -/
abbrev loadK (a : Memref sig .tc .vmem S1x4096x128 .bf16) (h : a.IsWhole) (x : Vec F S1x4096x128 .bf16) (n : ℕ) : FVec F S1x256x128 .bf16 :=
  View.readAt (Elt F) a.view (rectK i n).toLoadRect (h.unread x)

/-- The sinks as loaded. -/
abbrev loadS : FVec F S1x1x1024 .f32 :=
  View.readAt (Elt F) a7.view (Rect.unit (s := S1x1x1024) ![0, 0, 0] S1x1x1024.size inb_S1x1x1024_S1x1x1024_0_0_0).toLoadRect (h7.unread x4)

/-- The output tile of head `g` of block `n`. -/
abbrev pointTile (n g : ℕ) : FVec F S1x128x128 .bf16 :=
  gated (mean (loadK i a6 h6 x3 n) (scores (loadK i a5 h5 x2 n) (loadQ a3 h3 x0 n) (shift i n)) (sunk (loadS a7 h7 x4)))
    (loadZ a4 h4 x1 n g) g

/-- The stores of a grid point into its output block, the last first: thirty-two tiles. -/
theorem pieces : (kernelRun0_A c i a3 h3 a4 h4 a5 h5 a6 h6 a7 h7 a8 h8 x0 x1 x2 x3 x4).1
    = [3, 2, 1, 0].flatMap fun n => [7, 6, 5, 4, 3, 2, 1, 0].map fun g =>
        ⟨rectZ n g, pointTile i a3 h3 a4 h4 a5 h5 a6 h6 a7 h7 x0 x1 x2 x3 x4 n g⟩ := by
  unfold kernelRun0_A
  dsimp only
  rfl

end Point

end Cert.Kernel7Ideal.Win
-- ==== Proof.Window.lean ====
/-
  The mathematics of sliding-window attention with a sink over the extended reals: the weighted mean over the 256 keys
  around a query, and the softmax over all 4096 keys and the sink, are one weighted mean. No program occurs here.
-/
module

public import proofs.«01_k».proof.Proof.Softmax
public import Idealize.ShloMosaic.Lib.WordCmp
public import Idealize.ShloMosaic.Lib.Pointwise.Index

@[expose] public section

noncomputable section

namespace Cert.Softmax

open Idealize.ShloMosaic

/-! ## The window as a comparison of words -/

theorem toInt_sub_ofNat {a b : ℕ} (ha : a < 2 ^ 20) (hb : b < 2 ^ 20) :
    (BitVec.ofNat 32 a - BitVec.ofNat 32 b).toInt = (a : Int) - b := by
  rw [BitVec.toInt_sub, WordCmp.toInt_ofNat_of_lt (by omega), WordCmp.toInt_ofNat_of_lt (by omega)]
  exact Int.bmod_eq_of_le (by omega) (by omega)

/-- The two comparisons of a difference of words are the window. -/
theorem word_window {a b : ℕ} (ha : a < 2 ^ 20) (hb : b < 2 ^ 20) :
    IntOp.andi (IntOp.cmpi .sge (IntOp.subi (BitVec.ofNat 32 a) (BitVec.ofNat 32 b)) 0#32)
        (IntOp.cmpi .slt (IntOp.subi (BitVec.ofNat 32 a) (BitVec.ofNat 32 b)) 128#32)
      = BitVec.ofBool (decide (b ≤ a ∧ a < b + 128)) := by
  rw [WordCmp.cmpi_sge_eq, WordCmp.cmpi_slt_eq, WordCmp.andi_ofBool]
  congr 1
  have e : (IntOp.subi (BitVec.ofNat 32 a) (BitVec.ofNat 32 b)).toInt = (a : Int) - b := toInt_sub_ofNat ha hb
  rw [e, ← Bool.decide_and]
  refine decide_eq_decide.mpr ?_
  show (0 : Int) ≤ (a : Int) - b ∧ (a : Int) - b < 128 ↔ _
  omega

/-! ## The weighted mean -/

/-- The weight of key `t` for query `R`: two to the score within the window, zero outside it. -/
def wwt (σ : ℕ → ℝ) (R t : ℕ) : ℝ := if t ≤ R ∧ R < t + 128 then (2 : ℝ) ^ σ t else 0

/-- The sum of the weights and of the sink's weight. -/
def wsum (σ : ℕ → ℝ) (s : ℝ) (R : ℕ) : ℝ := ∑ t ∈ Finset.range 4096, wwt σ R t + (2 : ℝ) ^ (s * (Real.log 2)⁻¹)

/-- Sliding-window attention with a sink for query `R`: the sum of the values under the normalised weights. -/
def wattn (σ : ℕ → ℝ) (s : ℝ) (v : ℕ → EReal) (R : ℕ) : EReal :=
  ∑ t ∈ Finset.range 4096, v t * ((wwt σ R t / wsum σ s R : ℝ) : EReal)

/-- The score of key `t` for query `R` under the window's mask. -/
def wmask (σ : ℕ → ℝ) (R t : ℕ) : EReal := if t ≤ R ∧ R < t + 128 then (σ t : EReal) else ⊥

theorem wmask_ne_top (σ : ℕ → ℝ) (R t : ℕ) : wmask σ R t ≠ ⊤ := by
  unfold wmask; split <;> simp

theorem wwt_nonneg (σ : ℕ → ℝ) (R t : ℕ) : 0 ≤ wwt σ R t := by
  unfold wwt; split
  · exact (Real.rpow_pos_of_pos two_pos _).le
  · exact le_rfl

theorem wsum_pos (σ : ℕ → ℝ) (s : ℝ) (R : ℕ) : 0 < wsum σ s R :=
  add_pos_of_nonneg_of_pos (Finset.sum_nonneg fun t _ => wwt_nonneg σ R t) (Real.rpow_pos_of_pos two_pos _)

/-- The kernel's weight at a real maximum is the weight times one factor for all keys. -/
theorem exp2_wmask (σ : ℕ → ℝ) (R t : ℕ) (M : ℝ) :
    Ideal.exp2 (wmask σ R t - M) = ((wwt σ R t * (2 : ℝ) ^ (-M) : ℝ) : EReal) := by
  unfold wmask wwt
  split
  · rw [← EReal.coe_sub, Ideal.exp2_coe]
    congr 1
    show (2 : ℝ) ^ (σ t - M) = _
    rw [sub_eq_add_neg, Real.rpow_add two_pos]
  · simp

/-- The kernel's weight of the sink at a real maximum. -/
theorem exp2_sink (s M : ℝ) :
    Ideal.exp2 ((s : EReal) * (((Real.log 2)⁻¹ : ℝ) : EReal) - M) = (((2 : ℝ) ^ (s * (Real.log 2)⁻¹) * (2 : ℝ) ^ (-M) : ℝ) : EReal) := by
  rw [← EReal.coe_mul, ← EReal.coe_sub, Ideal.exp2_coe]
  congr 1
  show (2 : ℝ) ^ (s * (Real.log 2)⁻¹ - M) = _
  rw [sub_eq_add_neg, Real.rpow_add two_pos]

/-- The reference's weight at a real maximum is the weight times one factor for all keys. -/
theorem exp_wmask (σ : ℕ → ℝ) (R t : ℕ) (M : ℝ) :
    Ideal.exp ((if t ≤ R ∧ R < t + 128 then (σ t : EReal) * ((Real.log 2 : ℝ) : EReal) else ⊥) - M)
      = ((wwt σ R t * Real.exp (-M) : ℝ) : EReal) := by
  unfold wwt
  split
  · rw [← EReal.coe_mul, ← EReal.coe_sub, Ideal.exp_coe]
    congr 1
    rw [sub_eq_add_neg, Real.exp_add, Real.rpow_def_of_pos two_pos, mul_comm (Real.log 2)]
  · simp

/-- The reference's weight of the sink at a real maximum. -/
theorem exp_sink (s M : ℝ) :
    Ideal.exp ((s : EReal) - M) = (((2 : ℝ) ^ (s * (Real.log 2)⁻¹) * Real.exp (-M) : ℝ) : EReal) := by
  have hl : Real.log 2 ≠ 0 := (Real.log_pos one_lt_two).ne'
  rw [← EReal.coe_sub, Ideal.exp_coe]
  congr 1
  rw [sub_eq_add_neg, Real.exp_add, Real.rpow_def_of_pos two_pos, mul_comm s, ← mul_assoc, mul_inv_cancel₀ hl, one_mul]

/-- A sum over 256 keys is the sum over all keys, those outside adding nothing. -/
theorem sum_keys (f : ℕ → EReal) (k0 : ℕ) (hk : k0 + 256 ≤ 4096) (h : ∀ t, ¬ (k0 ≤ t ∧ t < k0 + 256) → f t = 0) :
    ∑ k : Fin 256, f (k0 + k.val) = ∑ t ∈ Finset.range 4096, f t := by
  rw [show 4096 = k0 + 256 + (4096 - (k0 + 256)) from by omega, Finset.sum_range_add, Finset.sum_range_add,
    Finset.sum_eq_zero (s := Finset.range k0) (fun t ht => h _ (by have := Finset.mem_range.mp ht; omega)),
    Finset.sum_eq_zero (s := Finset.range (4096 - (k0 + 256))) (fun t _ => h _ (by omega)), zero_add, add_zero,
    Fin.sum_univ_eq_sum_range (fun k => f (k0 + k))]

/-- The kernel's quotient over the 256 keys around the query is the weighted mean. -/
theorem window_quotient (σ : ℕ → ℝ) (s : ℝ) (v : ℕ → EReal) (R k0 : ℕ) (M : ℝ) (hk : k0 + 256 ≤ 4096)
    (hw : ∀ t, t ≤ R → R < t + 128 → k0 ≤ t ∧ t < k0 + 256) :
    (∑ k : Fin 256, v (k0 + k.val) * Ideal.exp2 (wmask σ R (k0 + k.val) - M))
        * Ideal.div 1 ((∑ k : Fin 256, 1 * Ideal.exp2 (wmask σ R (k0 + k.val) - M))
          + Ideal.exp2 ((s : EReal) * (((Real.log 2)⁻¹ : ℝ) : EReal) - M))
      = wattn σ s v R := by
  have hz : ∀ t, ¬ (k0 ≤ t ∧ t < k0 + 256) → Ideal.exp2 (wmask σ R t - M) = 0 := by
    intro t ht
    have : ¬ (t ≤ R ∧ R < t + 128) := fun e => ht (hw t e.1 e.2)
    unfold wmask; rw [if_neg this]; simp
  rw [sum_keys (fun t => v t * Ideal.exp2 (wmask σ R t - M)) k0 hk (fun t ht => by rw [hz t ht, mul_zero]),
    sum_keys (fun t => 1 * Ideal.exp2 (wmask σ R t - M)) k0 hk (fun t ht => by rw [hz t ht, mul_zero])]
  simp only [one_mul]
  have hκ : (0 : ℝ) < (2 : ℝ) ^ (-M) := Real.rpow_pos_of_pos two_pos _
  have hL := wsum_pos σ s R
  simp only [exp2_wmask, exp2_sink]
  rw [coe_sum, ← Finset.sum_mul, ← EReal.coe_add, ← add_mul, show ((1 : EReal)) = ((1 : ℝ) : EReal) from rfl]
  show _ * Ideal.div _ ((wsum σ s R * (2 : ℝ) ^ (-M) : ℝ) : EReal) = _
  rw [div_coe _ (mul_pos hL hκ).ne', mul_comm, mul_sum _ _ (by exact_mod_cast (by positivity)) (EReal.coe_ne_top _)]
  unfold wattn
  refine Finset.sum_congr rfl fun t _ => ?_
  rw [mul_left_comm, ← EReal.coe_mul]
  congr 2
  field_simp

/-- The reference's sum of normalised weights times values is the weighted mean. -/
theorem softmax_eq_wattn (σ : ℕ → ℝ) (s : ℝ) (v : ℕ → EReal) (R : ℕ) (M : ℝ) :
    (∑ t ∈ Finset.range 4096,
        Ideal.div (Ideal.exp ((if t ≤ R ∧ R < t + 128 then (σ t : EReal) * ((Real.log 2 : ℝ) : EReal) else ⊥) - M))
          ((∑ u ∈ Finset.range 4096, Ideal.exp ((if u ≤ R ∧ R < u + 128 then (σ u : EReal) * ((Real.log 2 : ℝ) : EReal) else ⊥) - M))
            + Ideal.exp ((s : EReal) - M)) * v t)
      = wattn σ s v R := by
  have hκ : (0 : ℝ) < Real.exp (-M) := Real.exp_pos _
  have hL := wsum_pos σ s R
  simp only [exp_wmask, exp_sink]
  rw [coe_sum, ← Finset.sum_mul, ← EReal.coe_add, ← add_mul]
  show (∑ t ∈ Finset.range 4096, Ideal.div _ ((wsum σ s R * Real.exp (-M) : ℝ) : EReal) * v t) = _
  unfold wattn
  refine Finset.sum_congr rfl fun t _ => ?_
  rw [div_coe _ (mul_pos hL hκ).ne', mul_comm]
  congr 2
  field_simp

/-! ## The attention of the arrays -/

/-- An entry of the packed queries and gates, its indices read modulo the extents. -/
def atQz (X : (⟨3, ![2, 4096, 8192]⟩ : Shape).Idx → EReal) (b r d : ℕ) : EReal :=
  X (ix3 ⟨b % 2, Nat.mod_lt _ (by decide)⟩ ⟨r % 4096, Nat.mod_lt _ (by decide)⟩ ⟨d % 8192, Nat.mod_lt _ (by decide)⟩)

/-- An entry of the packed keys and values, its indices read modulo the extents. -/
def atKv (X : (⟨3, ![2, 4096, 1024]⟩ : Shape).Idx → EReal) (b r d : ℕ) : EReal :=
  X (ix3 ⟨b % 2, Nat.mod_lt _ (by decide)⟩ ⟨r % 4096, Nat.mod_lt _ (by decide)⟩ ⟨d % 1024, Nat.mod_lt _ (by decide)⟩)

/-- A head's sink, the head read modulo the number of heads. -/
def atSink (S : (⟨1, ![32]⟩ : Shape).Idx → EReal) (h : ℕ) : EReal := S (ix1 ⟨h % 32, Nat.mod_lt _ (by decide)⟩)

/-- Read at indices within the extents, the packed queries' and gates' entry. -/
theorem atQz_fin (X : (⟨3, ![2, 4096, 8192]⟩ : Shape).Idx → EReal) (b : Fin 2) (r : Fin 4096) {d : ℕ} (e : Fin 8192) (h : d = e.val) :
    atQz X b.val r.val d = X (ix3 b r e) := by
  subst h
  unfold atQz
  simp only [Nat.mod_eq_of_lt b.isLt, Nat.mod_eq_of_lt r.isLt, Nat.mod_eq_of_lt e.isLt]

/-- Read at indices within the extents, the packed keys' and values' entry. -/
theorem atKv_fin (X : (⟨3, ![2, 4096, 1024]⟩ : Shape).Idx → EReal) (b : Fin 2) (r : Fin 4096) {d : ℕ} (e : Fin 1024) (h : d = e.val) :
    atKv X b.val r.val d = X (ix3 b r e) := by
  subst h
  unfold atKv
  simp only [Nat.mod_eq_of_lt b.isLt, Nat.mod_eq_of_lt r.isLt, Nat.mod_eq_of_lt e.isLt]

/-- Read at a head, the head's sink. -/
theorem atSink_fin (S : (⟨1, ![32]⟩ : Shape).Idx → EReal) {h : ℕ} (e : Fin 32) (he : h = e.val) : atSink S h = S (ix1 e) := by
  subst he
  unfold atSink
  simp only [Nat.mod_eq_of_lt e.isLt]

/-- The score of key `t` for query `R` of head `h`, whose keys are those of group `h / 8`. -/
def scoreW (X : (⟨3, ![2, 4096, 8192]⟩ : Shape).Idx → EReal) (Y : (⟨3, ![2, 4096, 1024]⟩ : Shape).Idx → EReal) (b h R t : ℕ) : EReal :=
  ∑ d : Fin 128, atKv Y b t (128 * (h / 8) + d.val) * atQz X b R (128 * h + d.val)

/-- The gated sliding-window attention at batch `b`, row `R`, column `C`. -/
def windowAttn (X : (⟨3, ![2, 4096, 8192]⟩ : Shape).Idx → EReal) (Y : (⟨3, ![2, 4096, 1024]⟩ : Shape).Idx → EReal)
    (S : (⟨1, ![32]⟩ : Shape).Idx → EReal) (b R C : ℕ) : EReal :=
  wattn (fun t => (scoreW X Y b (C / 128) R t).toReal) (atSink S (C / 128)).toReal
      (fun t => atKv Y b t (512 + (128 * (C / 1024) + C % 128))) R
    * (atQz X b R (4096 + C) * Ideal.logistic (atQz X b R (4096 + C)))

end Cert.Softmax
-- ==== Proof.WinRead.lean ====
/-
  What a grid point of the sliding-window attention computes, over the extended reals: each entry of its output block is
  the weighted mean of the values within the query's window, the sink counted in the weights, times the gate.
-/
module

public import proofs.«01_k».proof.Proof.WinTile
public import proofs.«01_k».proof.Proof.Window
public import Idealize.ShloMosaic.Lib.Pointwise
public import Idealize.ShloMosaic.Lib.WordCmp

@[expose] public section

set_option maxRecDepth 65536

noncomputable section

namespace Cert.Kernel7Ideal.Win

open Cert.Kernel7Ideal Cert.Kernel7Ideal.Gen Idealize.ShloMosaic Idealize.ShloMosaic.TcCoe Idealize.SL.Sem Cert.Softmax

theorem neg_inf : Ideal.ofBits .f32 0xFF800000#32 = ⊥ := by simp [Ideal.ofBits, Ideal.ieee]

/-! ## One block of queries, read at an index -/

/-- Eight pieces of one shape joined, read at an index: the piece the coordinate falls in. -/
theorem concat_eight {α : Type} {t s₁ : Shape} (a : Fin t.rank) (f : Fin 8 → (s₁.Idx → α))
    (h : Shape.Concatenates [s₁, s₁, s₁, s₁, s₁, s₁, s₁, s₁] t a) (hr : s₁.rank = t.rank) (K : ℕ) (hK : s₁.size (a.cast hr.symm) = K)
    (j : t.Idx) (n : Fin 8) (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, f 0⟩, ⟨s₁, f 1⟩, ⟨s₁, f 2⟩, ⟨s₁, f 3⟩, ⟨s₁, f 4⟩, ⟨s₁, f 5⟩, ⟨s₁, f 6⟩, ⟨s₁, f 7⟩] h j = f n i :=
  concatenate_ofFn_apply a f h hr K hK j n hn i hia hi

theorem biases_apply (b : FVec Ideal S256x128 .f32) (k : Fin 256) (g : Fin 8) (r : Fin 128) :
    biases b (ix2 k ⟨128 * g.val + r.val, by omega⟩) = b (ix2 k r) := by
  unfold biases
  refine concat_eight (t := S256x1024) (s₁ := S256x128) 1 (fun _ => b) _ rfl 128 rfl _ g ?_ _ ?_ ?_
  · show (128 * g.val + r.val) / 128 = g.val; omega
  · show r.val = (128 * g.val + r.val) % 128; omega
  · intro b hb
    match b with
    | ⟨0, _⟩ => rfl
    | ⟨1, _⟩ => exact absurd rfl hb

theorem slices_cols (n : Fin 8) : S128x1024.Slices ![0, 128 * n.val] S128x128 :=
  ⟨rfl, by
    intro a
    match a with
    | ⟨0, _⟩ => show 0 + 128 ≤ 128; omega
    | ⟨1, _⟩ => show 128 * n.val + 128 ≤ 1024; omega⟩

/-- One head's queries. -/
def headQ (q : FVec Ideal S1x128x1024 .bf16) (n : Fin 8) : FVec Ideal S128x128 .bf16 :=
  extractStridedSlice S128x128 ![0, 128 * n.val] (shapeCast S128x1024 q shapeCasts_S1x128x1024_S128x1024) (slices_cols n)

theorem headQ_apply (q : FVec Ideal S1x128x1024 .bf16) (n : Fin 8) (r x : Fin 128) :
    headQ q n (ix2 r x) = q (ix3 0 r ⟨128 * n.val + x.val, by omega⟩) := by
  pointwise [headQ]

theorem stacked_eq (q : FVec Ideal S1x128x1024 .bf16) :
    stacked q = concatenate S1024x128 0 [⟨S128x128, headQ q 0⟩, ⟨S128x128, headQ q 1⟩, ⟨S128x128, headQ q 2⟩, ⟨S128x128, headQ q 3⟩,
      ⟨S128x128, headQ q 4⟩, ⟨S128x128, headQ q 5⟩, ⟨S128x128, headQ q 6⟩, ⟨S128x128, headQ q 7⟩]
      concatenates_S128x128_S128x128_S128x128_S128x128_S128x128_S128x128_S128x128_S128x128_S1024x128_d0 := by
  unfold stacked headQ
  rfl

theorem stacked_apply (q : FVec Ideal S1x128x1024 .bf16) (g : Fin 8) (r x : Fin 128) :
    stacked q (ix2 ⟨128 * g.val + r.val, by omega⟩ x) = q (ix3 0 r ⟨128 * g.val + x.val, by omega⟩) := by
  rw [stacked_eq]
  refine (concat_eight (t := S1024x128) (s₁ := S128x128) 0 (headQ q) _ rfl 128 rfl _ g ?_ (ix2 r x) ?_ ?_).trans (headQ_apply q g r x)
  · show (128 * g.val + r.val) / 128 = g.val; omega
  · show r.val = (128 * g.val + r.val) % 128; omega
  · intro b hb
    match b with
    | ⟨0, _⟩ => exact absurd rfl hb
    | ⟨1, _⟩ => rfl

theorem bias_apply (d : ℕ) (hd : d ≤ 128) (k : Fin 256) (r : Fin 128) :
    bias (F := Ideal) (BitVec.ofNat 32 d) (ix2 k r) = if k.val ≤ r.val + d ∧ r.val + d < k.val + 128 then 0 else ⊥ := by
  pointwise [bias]
  rw [show IntOp.addi (BitVec.ofNat 32 r.val) (BitVec.ofNat 32 d) = BitVec.ofNat 32 (r.val + d) from (BitVec.ofNat_add _ _).symm,
    word_window (by omega) (by omega), neg_inf]
  by_cases h : k.val ≤ r.val + d ∧ r.val + d < k.val + 128 <;> simp [Scalar.select, h]

theorem scores_apply (k : FVec Ideal S1x256x128 .bf16) (q : FVec Ideal S1x128x1024 .bf16) (d : ℕ) (hd : d ≤ 128) (a : Fin 256)
    (g : Fin 8) (r : Fin 128) :
    scores k q (BitVec.ofNat 32 d) (ix2 a ⟨128 * g.val + r.val, by omega⟩)
      = ∑ x : Fin 128, k (ix3 0 a x) * q (ix3 0 r ⟨128 * g.val + x.val, by omega⟩)
        + if a.val ≤ r.val + d ∧ r.val + d < a.val + 128 then 0 else ⊥ := by
  pointwise [scores]
  rw [biases_apply, bias_apply d hd]
  congr 1
  refine Finset.sum_congr rfl fun x _ => ?_
  rw [stacked_apply]

theorem sunk_apply (x : FVec Ideal S1x1x1024 .f32) (c : Fin 1024) :
    sunk x (ix2 0 c) = x (ix3 0 0 c) * (((Real.log 2)⁻¹ : ℝ) : EReal) := by
  pointwise [sunk]
  rfl

theorem peak_apply (s : FVec Ideal S256x1024 .f32) (u : FVec Ideal S1x1024 .f32) (c : Fin 1024) :
    peak s u (ix2 0 c) = max (Finset.univ.fold max ⊥ fun x : Fin 256 => s (ix2 x c)) (u (ix2 0 c)) := by
  pointwise [peak]
  rw [neg_inf]

theorem turned_apply (v : FVec Ideal S1x256x128 .bf16) (d : Fin 144) (k : Fin 256) :
    turned v (ix2 d k) = if h : d.val < 128 then v (ix3 0 k ⟨d.val, h⟩) else 1 := by
  pointwise [turned]

theorem weighed_apply (v : FVec Ideal S1x256x128 .bf16) (s : FVec Ideal S256x1024 .f32) (u : FVec Ideal S1x1024 .f32) (d : Fin 144)
    (c : Fin 1024) :
    weighed v s u (ix2 d c) = ∑ k : Fin 256, turned v (ix2 d k) * Ideal.exp2 (s (ix2 k c) - peak s u (ix2 0 c)) := by
  pointwise [weighed]
  rfl

theorem mean_apply (v : FVec Ideal S1x256x128 .bf16) (s : FVec Ideal S256x1024 .f32) (u : FVec Ideal S1x1024 .f32) (d : Fin 128)
    (c : Fin 1024) :
    mean v s u (ix2 d c)
      = (∑ k : Fin 256, v (ix3 0 k d) * Ideal.exp2 (s (ix2 k c) - peak s u (ix2 0 c)))
        * Ideal.div 1 ((∑ k : Fin 256, 1 * Ideal.exp2 (s (ix2 k c) - peak s u (ix2 0 c))) + Ideal.exp2 (u (ix2 0 c) - peak s u (ix2 0 c))) := by
  have e1 : weighed v s u (ix2 ⟨d.val, by omega⟩ c) = ∑ k : Fin 256, v (ix3 0 k d) * Ideal.exp2 (s (ix2 k c) - peak s u (ix2 0 c)) := by
    rw [weighed_apply]
    refine Finset.sum_congr rfl fun k _ => ?_
    rw [turned_apply, dif_pos d.isLt]
  have e2 : weighed v s u (ix2 128 c) = ∑ k : Fin 256, 1 * Ideal.exp2 (s (ix2 k c) - peak s u (ix2 0 c)) := by
    rw [weighed_apply]
    refine Finset.sum_congr rfl fun k _ => ?_
    rw [turned_apply, dif_neg (by decide)]
  rw [← e1, ← e2]
  pointwise [mean]
  rfl

theorem gated_apply (o : FVec Ideal S128x1024 .f32) (z : FVec Ideal S1x128x128 .bf16) (g : Fin 8) (r d : Fin 128) :
    gated o z g.val (ix3 0 r d) = o (ix2 d ⟨128 * g.val + r.val, by omega⟩) * (z (ix3 0 r d) * Ideal.logistic (z (ix3 0 r d))) := by
  have : g.val % 8 = g.val := Nat.mod_eq_of_lt g.isLt
  pointwise [gated, this]

/-- The tile of a head and a block of queries at an index: the weighted mean within the query's window, times the gate. -/
theorem tile_apply (k v : FVec Ideal S1x256x128 .bf16) (q : FVec Ideal S1x128x1024 .bf16) (z : FVec Ideal S1x128x128 .bf16)
    (x : FVec Ideal S1x1x1024 .f32) (d0 : ℕ) (hd0 : d0 ≤ 128) (k0 : ℕ) (hk : k0 + 256 ≤ 4096) (h0 : k0 + d0 ≤ 4096) (hz : d0 = 128 ∨ k0 = 0)
    (g : Fin 8) (r d : Fin 128) (σ : ℕ → ℝ) (s : ℝ) (w : ℕ → EReal)
    (hs : ∀ a : Fin 256, ∑ y : Fin 128, k (ix3 0 a y) * q (ix3 0 r ⟨128 * g.val + y.val, by omega⟩) = σ (k0 + a.val))
    (hx : x (ix3 0 0 ⟨128 * g.val + r.val, by omega⟩) = s) (hv : ∀ a : Fin 256, v (ix3 0 a d) = w (k0 + a.val)) :
    gated (mean v (scores k q (BitVec.ofNat 32 d0)) (sunk x)) z g.val (ix3 0 r d)
      = wattn σ s w (k0 + d0 + r.val) * (z (ix3 0 r d) * Ideal.logistic (z (ix3 0 r d))) := by
  have hr := r.isLt
  have hsc : ∀ a : Fin 256, scores k q (BitVec.ofNat 32 d0) (ix2 a ⟨128 * g.val + r.val, by omega⟩)
      = wmask σ (k0 + d0 + r.val) (k0 + a.val) := by
    intro a
    rw [scores_apply k q d0 hd0, hs]
    unfold wmask
    by_cases h : a.val ≤ r.val + d0 ∧ r.val + d0 < a.val + 128
    · rw [if_pos h, if_pos (by omega), add_zero]
    · rw [if_neg h, if_neg (by omega), EReal.add_bot]
  have hu : sunk x (ix2 0 ⟨128 * g.val + r.val, by omega⟩) = (s : EReal) * (((Real.log 2)⁻¹ : ℝ) : EReal) := by rw [sunk_apply, hx]
  obtain ⟨M, hM⟩ : ∃ M : ℝ, peak (scores k q (BitVec.ofNat 32 d0)) (sunk x) (ix2 0 ⟨128 * g.val + r.val, by omega⟩) = (M : EReal) := by
    refine ⟨_, (EReal.coe_toReal ?_ ?_).symm⟩
    · rw [peak_apply, hu, ← EReal.coe_mul]
      simp only [hsc]
      rcases max_choice (Finset.univ.fold max ⊥ fun a : Fin 256 => wmask σ (k0 + d0 + r.val) (k0 + a.val))
        ((s * (Real.log 2)⁻¹ : ℝ) : EReal) with e | e <;> rw [e]
      · exact fold_max_ne_top _ _ fun a => wmask_ne_top _ _ _
      · exact EReal.coe_ne_top _
    · rw [peak_apply, hu, ← EReal.coe_mul]
      intro e
      exact EReal.coe_ne_bot _ (le_bot_iff.mp ((le_max_right _ _).trans e.le))
  rw [gated_apply, mean_apply, hM, hu]
  simp only [hsc, hv]
  rw [window_quotient σ s w (k0 + d0 + r.val) k0 M hk (fun t h1 h2 => by omega)]

end Cert.Kernel7Ideal.Win
-- ==== Proof.WinPoint.lean ====
/-
  A grid point of the sliding-window attention: what it loads and what its thirty-two tiles make of its output block.
-/
module

public import proofs.«01_k».proof.Proof.WinRead
public import Idealize.ShloMosaic.Lib.Pipeline.ValueKit

@[expose] public section

set_option maxRecDepth 65536

noncomputable section

namespace Cert.Kernel7Ideal.Win

open Cert.Kernel7Ideal Cert.Kernel7Ideal.Gen Idealize.ShloMosaic Idealize.ShloMosaic.TcCoe Idealize.SL.Sem Cert.Softmax

/-! ## Where a block of queries finds its keys -/

/-- The first key of block `n` of grid row `i`. -/
def key0 (i n : ℕ) : ℕ := 512 * i + 128 * n - 128

theorem words : ∀ (i : Fin 8) (n : Fin 4),
    (Scalar.maxsi (Scalar.subi (Scalar.addi (Scalar.muli (BitVec.ofNat 32 i.val) 512#32) (BitVec.ofNat 32 (128 * n.val))) 128#32) 0#32).toNat
        = key0 i.val n.val
      ∧ Scalar.subi (Scalar.addi (Scalar.muli (BitVec.ofNat 32 i.val) 512#32) (BitVec.ofNat 32 (128 * n.val)))
          (Scalar.maxsi (Scalar.subi (Scalar.addi (Scalar.muli (BitVec.ofNat 32 i.val) 512#32) (BitVec.ofNat 32 (128 * n.val))) 128#32) 0#32)
        = BitVec.ofNat 32 (512 * i.val + 128 * n.val - key0 i.val n.val) := by
  decide +kernel

theorem shift_eq (i : grid0.Coords) {n : ℕ} (hn : n < 4) :
    shift i n = BitVec.ofNat 32 (512 * (i 2).val + 128 * n - key0 (i 2).val n) := by
  unfold shift start
  rw [Nat.mod_eq_of_lt hn]
  exact (words (i 2) ⟨n, hn⟩).2

theorem off_eq (i : grid0.Coords) {n : ℕ} (hn : n < 4) :
    k0_off1 i (BitVec.ofNat 32 (128 * (n % 4))) = ![0, key0 (i 2).val n, 0] := by
  rw [Nat.mod_eq_of_lt hn]
  have := (words (i 2) ⟨n, hn⟩).1
  unfold k0_off1
  dsimp only
  rw [← this]
  rfl

/-! ## The tiles a grid point loads, read at an index -/

/-- A staged block's entry, its indices read modulo the extents. -/
def atX (x : Vec Ideal S1x512x1024 .bf16) (r d : ℕ) : EReal :=
  x (ix3 0 ⟨r % 512, Nat.mod_lt _ (by decide)⟩ ⟨d % 1024, Nat.mod_lt _ (by decide)⟩)

/-- The same of the keys or values. -/
def atK (x : Vec Ideal S1x4096x128 .bf16) (r d : ℕ) : EReal :=
  x (ix3 0 ⟨r % 4096, Nat.mod_lt _ (by decide)⟩ ⟨d % 128, Nat.mod_lt _ (by decide)⟩)

/-- The same of the sinks. -/
def atS (x : Vec Ideal S1x1x1024 .f32) (d : ℕ) : EReal := x (ix3 0 0 ⟨d % 1024, Nat.mod_lt _ (by decide)⟩)

section Point

variable (c : Dev nD) (i : grid0.Coords)
  (a3 : Memref sig .tc .vmem S1x512x1024 .bf16) (h3 : a3.IsWhole) (a4 : Memref sig .tc .vmem S1x512x1024 .bf16) (h4 : a4.IsWhole)
  (a5 : Memref sig .tc .vmem S1x4096x128 .bf16) (h5 : a5.IsWhole) (a6 : Memref sig .tc .vmem S1x4096x128 .bf16) (h6 : a6.IsWhole)
  (a7 : Memref sig .tc .vmem S1x1x1024 .f32) (h7 : a7.IsWhole) (a8 : Memref sig .tc .vmem S1x512x1024 .bf16) (h8 : a8.IsWhole)
  (x0 x1 : Vec Ideal S1x512x1024 .bf16) (x2 x3 : Vec Ideal S1x4096x128 .bf16) (x4 : Vec Ideal S1x1x1024 .f32)

theorem loadQ_apply {n : ℕ} (hn : n < 4) (r : Fin 128) (d : Fin 1024) :
    loadQ a3 h3 x0 n (ix3 0 r d) = atX x0 (128 * n + r.val) d.val := by
  unfold loadQ
  rw [View.readAt_eq_ld, h3.read_unread]
  unfold atX View.ld
  congr 1
  funext a
  apply Fin.ext
  have := r.isLt
  have := d.isLt
  match a with
  | ⟨0, _⟩ => rfl
  | ⟨1, _⟩ => show 128 * (n % 4) + 1 * r.val = (128 * n + r.val) % 512; omega
  | ⟨2, _⟩ => show 0 + 1 * d.val = d.val % 1024; omega

theorem loadZ_apply {n g : ℕ} (hn : n < 4) (hg : g < 8) (r d : Fin 128) :
    loadZ a4 h4 x1 n g (ix3 0 r d) = atX x1 (128 * n + r.val) (128 * g + d.val) := by
  unfold loadZ
  rw [View.readAt_eq_ld, h4.read_unread]
  unfold atX View.ld
  congr 1
  funext a
  apply Fin.ext
  have := r.isLt
  have := d.isLt
  match a with
  | ⟨0, _⟩ => rfl
  | ⟨1, _⟩ => show 128 * (n % 4) + 1 * r.val = (128 * n + r.val) % 512; omega
  | ⟨2, _⟩ => show 128 * (g % 8) + 1 * d.val = (128 * g + d.val) % 1024; omega

theorem key0_le (i : grid0.Coords) {n : ℕ} (hn : n < 4) : key0 (i 2).val n + 256 ≤ 4096 := by
  have : (i 2).val < 8 := (i 2).isLt
  unfold key0
  omega

theorem loadK_apply (a : Memref sig .tc .vmem S1x4096x128 .bf16) (h : a.IsWhole) (x : Vec Ideal S1x4096x128 .bf16) {n : ℕ} (hn : n < 4)
    (k : Fin 256) (d : Fin 128) :
    loadK i a h x n (ix3 0 k d) = atK x (key0 (i 2).val n + k.val) d.val := by
  have hk := key0_le i hn
  have := k.isLt
  have := d.isLt
  have e := off_eq i hn
  unfold loadK
  rw [View.readAt_eq_ld, h.read_unread]
  unfold atK View.ld
  congr 1
  funext a
  apply Fin.ext
  match a with
  | ⟨0, _⟩ =>
    show k0_off1 i (BitVec.ofNat 32 (128 * (n % 4))) 0 + 1 * 0 = 0
    rw [e]; rfl
  | ⟨1, _⟩ =>
    show k0_off1 i (BitVec.ofNat 32 (128 * (n % 4))) 1 + 1 * k.val = (key0 (i 2).val n + k.val) % 4096
    rw [e]
    show key0 (i 2).val n + 1 * k.val = (key0 (i 2).val n + k.val) % 4096
    omega
  | ⟨2, _⟩ =>
    show k0_off1 i (BitVec.ofNat 32 (128 * (n % 4))) 2 + 1 * d.val = d.val % 128
    rw [e]
    show 0 + 1 * d.val = d.val % 128
    omega

theorem loadS_apply (d : Fin 1024) : loadS a7 h7 x4 (ix3 0 0 d) = atS x4 d.val := by
  unfold loadS
  rw [View.readAt_eq_ld, h7.read_unread]
  unfold atS View.ld
  congr 1
  funext a
  apply Fin.ext
  have := d.isLt
  match a with
  | ⟨0, _⟩ => rfl
  | ⟨1, _⟩ => rfl
  | ⟨2, _⟩ => show 0 + 1 * d.val = d.val % 1024; omega

/-! ## A grid point's output block -/

/-- The score of key `t` for the block's query `r` of head `g` of the group. -/
def scoreX (x0 : Vec Ideal S1x512x1024 .bf16) (x2 : Vec Ideal S1x4096x128 .bf16) (g r t : ℕ) : EReal :=
  ∑ d : Fin 128, atK x2 t d.val * atX x0 r (128 * g + d.val)

/-- A grid point's output block, entry by entry. -/
def pointOut (i : ℕ) (x0 x1 : Vec Ideal S1x512x1024 .bf16) (x2 x3 : Vec Ideal S1x4096x128 .bf16) (x4 : Vec Ideal S1x1x1024 .f32)
    (y : S1x512x1024.Idx) : EReal :=
  wattn (fun t => (scoreX x0 x2 ((y 2).val / 128) (y 1).val t).toReal) (atS x4 (128 * ((y 2).val / 128) + (y 1).val % 128)).toReal
      (fun t => atK x3 t ((y 2).val % 128)) (512 * i + (y 1).val)
    * (atX x1 (y 1).val (y 2).val * Ideal.logistic (atX x1 (y 1).val (y 2).val))

/-- Every entry of a grid point's output block, given that queries, keys and sinks are real. -/
theorem point_canon (r0 : ∀ y, IsReal (x0 y)) (r2 : ∀ y, IsReal (x2 y)) (r4 : ∀ y, IsReal (x4 y)) (y : S1x512x1024.Idx) :
    View.canon (kernelRun0_A c i a3 h3 a4 h4 a5 h5 a6 h6 a7 h7 a8 h8 x0 x1 x2 x3 x4).1 y = pointOut (i 2).val x0 x1 x2 x3 x4 y := by
  refine View.canon_apply_of_pieces (Val := Elt Ideal) (e := .bf16) (pointOut (i 2).val x0 x1 x2 x3 x4) _ ?_ y ?_
  · rw [pieces]
    intro q hq
    simp only [List.mem_flatMap, List.mem_map, List.mem_cons, List.not_mem_nil, or_false] at hq
    obtain ⟨n, hn, g, hg, rfl⟩ := hq
    intro x
    obtain ⟨r, d, rfl⟩ : ∃ (r d : Fin 128), x = ix3 0 r d :=
      ⟨x 1, x 2, by funext a; match a with | ⟨0, _⟩ => exact Subsingleton.elim (α := Fin 1) _ _ | ⟨1, _⟩ => rfl | ⟨2, _⟩ => rfl⟩
    have hn : n < 4 := by omega
    have hg : g < 8 := by omega
    have hr := r.isLt
    have hd := d.isLt
    have hi : (i 2).val < 8 := (i 2).isLt
    have hk : key0 (i 2).val n = 512 * (i 2).val + 128 * n - 128 := rfl
    show gated (mean (loadK i a6 h6 x3 n) (scores (loadK i a5 h5 x2 n) (loadQ a3 h3 x0 n) (shift i n)) (sunk (loadS a7 h7 x4)))
      (loadZ a4 h4 x1 n g) g (ix3 0 r d) = _
    rw [shift_eq i hn]
    refine (tile_apply _ _ _ _ _ _ (by omega) (key0 (i 2).val n) (key0_le i hn) (by omega) (by omega) ⟨g, hg⟩ r d
      (fun t => (scoreX x0 x2 g (128 * n + r.val) t).toReal) (atS x4 (128 * g + r.val)).toReal (fun t => atK x3 t d.val) ?_ ?_ ?_).trans ?_
    · intro a
      simp only [loadK_apply i _ _ _ hn, loadQ_apply _ _ _ hn]
      refine (IsReal.coe_toReal (x := scoreX x0 x2 g (128 * n + r.val) (key0 (i 2).val n + a.val)) ?_).symm
      exact IsReal.sum _ _ fun d => (r2 _).mul (r0 _)
    · rw [loadS_apply]
      exact (IsReal.coe_toReal (r4 _)).symm
    · intro a
      rw [loadK_apply i _ _ _ hn]
    · rw [loadZ_apply _ _ _ hn hg]
      unfold pointOut
      show _ = wattn (fun t => (scoreX x0 x2 ((128 * (g % 8) + 1 * d.val) / 128) (128 * (n % 4) + 1 * r.val) t).toReal)
          (atS x4 (128 * ((128 * (g % 8) + 1 * d.val) / 128) + (128 * (n % 4) + 1 * r.val) % 128)).toReal
          (fun t => atK x3 t ((128 * (g % 8) + 1 * d.val) % 128)) (512 * (i 2).val + (128 * (n % 4) + 1 * r.val))
        * (atX x1 (128 * (n % 4) + 1 * r.val) (128 * (g % 8) + 1 * d.val)
          * Ideal.logistic (atX x1 (128 * (n % 4) + 1 * r.val) (128 * (g % 8) + 1 * d.val)))
      rw [show (128 * (g % 8) + 1 * d.val) / 128 = g by omega, show (128 * (g % 8) + 1 * d.val) % 128 = d.val by omega,
        show (128 * (n % 4) + 1 * r.val) % 128 = r.val by omega, show 128 * (n % 4) + 1 * r.val = 128 * n + r.val by omega,
        show 128 * (g % 8) + 1 * d.val = 128 * g + d.val by omega,
        show key0 (i 2).val n + (512 * (i 2).val + 128 * n - key0 (i 2).val n) + r.val = 512 * (i 2).val + (128 * n + r.val) by omega]
  · rw [pieces]
    have e0 : (y 0).val < 1 := (y 0).isLt
    have e1 : (y 1).val < 512 := (y 1).isLt
    have e2 : (y 2).val < 1024 := (y 2).isLt
    simp only [List.mem_flatMap, List.mem_map, List.mem_cons, List.not_mem_nil, or_false]
    refine ⟨_, ⟨(y 1).val / 128, by omega, (y 2).val / 128, by omega, rfl⟩, ?_⟩
    rw [Rect.mem_set_unit]
    intro a
    match a with
    | ⟨0, _⟩ => show 0 ≤ (y 0).val ∧ (y 0).val < 0 + 1; omega
    | ⟨1, _⟩ => show 128 * ((y 1).val / 128 % 4) ≤ (y 1).val ∧ (y 1).val < 128 * ((y 1).val / 128 % 4) + 128; omega
    | ⟨2, _⟩ => show 128 * ((y 2).val / 128 % 8) ≤ (y 2).val ∧ (y 2).val < 128 * ((y 2).val / 128 % 8) + 128; omega

end Point

end Cert.Kernel7Ideal.Win
-- ==== Proof.WinArray.lean ====
/-
  What the sliding-window kernel leaves in its result array: the gated windowed attention of its arguments, entry by entry.
-/
module

public import proofs.«01_k».proof.Proof.WinPoint

@[expose] public section

set_option maxRecDepth 65536

noncomputable section

namespace Cert.Kernel7Ideal.Win

open Cert.Kernel7Ideal Cert.Kernel7Ideal.Gen Idealize.ShloMosaic Idealize.ShloMosaic.TcCoe Idealize.SL.Sem Cert.Softmax
open Idealize.ShloMosaic.Pipeline (Dat)

/-! ## The blocks of each grid point -/

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, (grid0.coords t 2).val, 4 + (grid0.coords t 1).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)
theorem index3 : ∀ t : Fin cfg0.N, win0_3.index t = ![(grid0.coords t 0).val, 0, 4 + (grid0.coords t 1).val] :=
  (by decide +kernel : ∀ t : Fin grid0.N, _)
theorem index4 : ∀ t : Fin cfg0.N, win0_4.index t = ![(grid0.coords t 1).val, 0, 0] :=
  (by decide +kernel : ∀ t : Fin grid0.N, _)
theorem index5 : ∀ t : Fin cfg0.N, win0_5.index t = ![(grid0.coords t 0).val, (grid0.coords t 2).val, (grid0.coords t 1).val] :=
  (by decide +kernel : ∀ t : Fin grid0.N, _)

variable (m : (ℓ : Loc nD τ sig) → Buf (Elt Ideal) ℓ)

/-- The packed queries and gates. -/
abbrev argX (c : Dev nD) : S2x4096x8192.Idx → EReal := m ((c : Thread nD τ).loc main_arg0)
/-- The packed keys and values. -/
abbrev argY (c : Dev nD) : S2x4096x1024.Idx → EReal := m ((c : Thread nD τ).loc main_arg1)
/-- The sinks. -/
abbrev argS (c : Dev nD) : S32.Idx → EReal := m ((c : Thread nD τ).loc main_arg2)

theorem coord0_lt (t : Fin cfg0.N) : (grid0.coords t 0).val < 2 := (grid0.coords t 0).isLt
theorem coord1_lt (t : Fin cfg0.N) : (grid0.coords t 1).val < 4 := (grid0.coords t 1).isLt
theorem coord2_lt (t : Fin cfg0.N) : (grid0.coords t 2).val < 8 := (grid0.coords t 2).isLt

/-- The region finds each head's sink spread over 128 columns of its group's row. -/
theorem V_v2 (c : Dev nD) : V m c main_v2 = shapeCast S4x1x1024 (broadcastInDim S4x1x8x128 ![0, 1, 2, 3] bcast_S4x1x8x1_S4x1x8x128_0_1_2_3
    (shapeCast S4x1x8x1 (argS m c) shapeCasts_S32_S4x1x8x1)) shapeCasts_S4x1x8x128_S4x1x1024 := by
  unfold V
  after_results_simp
  rfl

theorem V_v2_apply (c : Dev nD) (g : Fin 4) (d : Fin 1024) : V m c main_v2 (ix3 g 0 d) = atSink (argS m c) (8 * g.val + d.val / 128) := by
  have := g.isLt
  have := d.isLt
  rw [atSink_fin (argS m c) ⟨g.val * 8 + d.val / 128, by omega⟩ (by show 8 * g.val + d.val / 128 = g.val * 8 + d.val / 128; omega), V_v2]
  pointwise []

theorem block0 (c : Dev nD) (t : Fin cfg0.N) (r d : ℕ) (hr : r < 512) (hd : d < 1024) :
    atX (iblk m c 0 t) r d = atQz (argX m c) (grid0.coords t 0).val (512 * (grid0.coords t 2).val + r) (1024 * (grid0.coords t 1).val + d) := by
  have := coord0_lt t
  have := coord1_lt t
  have := coord2_lt t
  unfold atX atQz
  blk_simp [iblk]
  rw [V_main_arg0]
  congr 1
  blk_ext [index0]

theorem block1 (c : Dev nD) (t : Fin cfg0.N) (r d : ℕ) (hr : r < 512) (hd : d < 1024) :
    atX (iblk m c 1 t) r d
      = atQz (argX m c) (grid0.coords t 0).val (512 * (grid0.coords t 2).val + r) (4096 + (1024 * (grid0.coords t 1).val + d)) := by
  have := coord0_lt t
  have := coord1_lt t
  have := coord2_lt t
  unfold atX atQz
  blk_simp [iblk]
  rw [V_main_arg0]
  congr 1
  blk_ext [index1]

theorem block2 (c : Dev nD) (t : Fin cfg0.N) (r d : ℕ) (hd : d < 128) :
    atK (iblk m c 2 t) r d = atKv (argY m c) (grid0.coords t 0).val r (128 * (grid0.coords t 1).val + d) := by
  have := coord0_lt t
  have := coord1_lt t
  unfold atK atKv
  blk_simp [iblk]
  rw [V_main_arg1]
  congr 1
  blk_ext [index2]

theorem block3 (c : Dev nD) (t : Fin cfg0.N) (r d : ℕ) (hd : d < 128) :
    atK (iblk m c 3 t) r d = atKv (argY m c) (grid0.coords t 0).val r (512 + (128 * (grid0.coords t 1).val + d)) := by
  have := coord0_lt t
  have := coord1_lt t
  unfold atK atKv
  blk_simp [iblk]
  rw [V_main_arg1]
  congr 1
  blk_ext [index3]

theorem block4_apply (c : Dev nD) (t : Fin cfg0.N) (y : S1x1x1024.Idx) :
    iblk m c 4 t y = atSink (argS m c) (8 * (grid0.coords t 1).val + (y 2).val / 128) := by
  have h : iblk m c 4 t y = V m c main_v2 (ix3 ⟨(grid0.coords t 1).val, coord1_lt t⟩ 0 ⟨(y 2).val, (y 2).isLt⟩) := by
    blk_simp [iblk]
    congr 1
    blk_ext [index4]
  rw [h, V_v2_apply]

theorem block4 (c : Dev nD) (t : Fin cfg0.N) (d : ℕ) (hd : d < 1024) :
    atS (iblk m c 4 t) d = atSink (argS m c) (8 * (grid0.coords t 1).val + d / 128) := by
  unfold atS
  rw [block4_apply]
  show atSink _ (8 * (grid0.coords t 1).val + d % 1024 / 128) = _
  rw [Nat.mod_eq_of_lt hd]

/-! ## Real arguments give real blocks -/

theorem real0 (c : Dev nD) (rx : ∀ y : S2x4096x8192.Idx, (y 2).val < 4096 → IsReal (argX m c y)) (t : Fin cfg0.N) (y) :
    IsReal (iblk m c 0 t y) := by
  have := coord1_lt t
  blk_simp [iblk]
  rw [V_main_arg0]
  refine rx _ ?_
  idx_bounds y
  blk_simp [index0]
  omega

theorem real2 (c : Dev nD) (ry : ∀ y : S2x4096x1024.Idx, (y 2).val < 512 → IsReal (argY m c y)) (t : Fin cfg0.N) (y) :
    IsReal (iblk m c 2 t y) := by
  have := coord1_lt t
  blk_simp [iblk]
  rw [V_main_arg1]
  refine ry _ ?_
  idx_bounds y
  blk_simp [index2]
  omega

theorem real4 (c : Dev nD) (rs : ∀ y, IsReal (argS m c y)) (t : Fin cfg0.N) (y) : IsReal (iblk m c 4 t y) := by
  rw [block4_apply]
  exact rs _

/-! ## The array -/

/-- A grid point's output block is its part of the gated windowed attention. -/
theorem pointOut_eq (c : Dev nD) (t : Fin cfg0.N) (y : S1x512x1024.Idx) :
    pointOut (grid0.coords t 2).val (iblk m c 0 t) (iblk m c 1 t) (iblk m c 2 t) (iblk m c 3 t) (iblk m c 4 t) y
      = windowAttn (argX m c) (argY m c) (argS m c) (grid0.coords t 0).val ((grid0.coords t 2).val * 512 + (y 1).val)
          ((grid0.coords t 1).val * 1024 + (y 2).val) := by
  have e1 : (y 1).val < 512 := (y 1).isLt
  have e2 : (y 2).val < 1024 := (y 2).isLt
  have e : ((grid0.coords t 1).val * 1024 + (y 2).val) / 128 = 8 * (grid0.coords t 1).val + (y 2).val / 128 := by omega
  have hs : ∀ u, scoreX (iblk m c 0 t) (iblk m c 2 t) ((y 2).val / 128) (y 1).val u
      = scoreW (argX m c) (argY m c) (grid0.coords t 0).val (8 * (grid0.coords t 1).val + (y 2).val / 128)
          (512 * (grid0.coords t 2).val + (y 1).val) u := by
    intro u
    unfold scoreX scoreW
    refine Finset.sum_congr rfl fun d _ => ?_
    have := d.isLt
    rw [block0 _ _ _ _ _ e1 (by omega), block2 _ _ _ _ _ d.isLt,
      show 1024 * (grid0.coords t 1).val + (128 * ((y 2).val / 128) + d.val)
        = 128 * (8 * (grid0.coords t 1).val + (y 2).val / 128) + d.val by omega,
      show (8 * (grid0.coords t 1).val + (y 2).val / 128) / 8 = (grid0.coords t 1).val by omega]
  unfold pointOut windowAttn
  have hv : ∀ u, atK (iblk m c 3 t) u ((y 2).val % 128) = atKv (argY m c) (grid0.coords t 0).val u
      (512 + (128 * (((grid0.coords t 1).val * 1024 + (y 2).val) / 1024) + ((grid0.coords t 1).val * 1024 + (y 2).val) % 128)) := by
    intro u
    rw [block3 _ _ _ _ _ (by omega), show ((grid0.coords t 1).val * 1024 + (y 2).val) / 1024 = (grid0.coords t 1).val by omega,
      show ((grid0.coords t 1).val * 1024 + (y 2).val) % 128 = (y 2).val % 128 by omega]
  simp only [hs, hv, e, block1 m c t _ _ e1 e2]
  rw [block4 _ _ _ _ (by omega), show (128 * ((y 2).val / 128) + (y 1).val % 128) / 128 = (y 2).val / 128 by omega]
  simp only [Nat.mul_comm 1024, Nat.mul_comm 512]

/-- The result array is the gated windowed attention of the arguments, given real queries, keys and sinks. -/
theorem array_eq (c : Dev nD) (rx : ∀ y : S2x4096x8192.Idx, (y 2).val < 4096 → IsReal (argX m c y))
    (ry : ∀ y : S2x4096x1024.Idx, (y 2).val < 512 → IsReal (argY m c y)) (rs : ∀ y, IsReal (argS m c y)) :
    (dats m 0 c).arrAt 5 cfg0.N
      = fun y : S2x4096x4096.Idx => windowAttn (argX m c) (argY m c) (argS m c) (y 0).val (y 1).val (y 2).val := by
  refine (dats m 0 c).arrAt_eq_of_covers 5 _ (by decide +kernel) fun t hf y => ?_
  blk_simp [index5]
  rw [after0_5]
  unfold outsAt0 out0_A_5
  rw [View.read_writes_junk_eq_canon]
  refine (point_canon c _ _ _ _ _ _ _ _ _ _ _ _ _ _ _ _ _ _ (real0 m c rx t) (real2 m c ry t) (real4 m c rs t) y).trans ?_
  exact pointOut_eq m c t y

end Cert.Kernel7Ideal.Win
-- ==== Proof.WinRef.lean ====
/-
  What the reference of the sliding-window attention computes: the gated sliding-window attention of its arguments, entry
  by entry.
-/
module

public import proofs.«01_k».proof.Proof.Gen.Reference7Ideal.Read
public import proofs.«01_k».proof.Proof.Window
public import Idealize.ShloMosaic.Lib.Pointwise
public import Idealize.ShloMosaic.Lib.WordCmp

@[expose] public section

set_option maxRecDepth 65536

noncomputable section

namespace Cert.Reference7Ideal.Win

open Cert.Reference7Ideal Cert.Reference7Ideal.Gen Cert.Reference7Ideal.Read Idealize.ShloMosaic Idealize.ShloMosaic.TcCoe Idealize.SL.Sem Cert.Softmax

theorem neg_inf : Ideal.ofBits .f32 0xFF800000#32 = ⊥ := by simp [Ideal.ofBits, Ideal.ieee]

/-- The natural logarithm of the constant two. -/
theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    norm_cast
    norm_num
  rw [this, Ideal.log_coe, if_neg (by norm_num)]

theorem one_bits : Ideal.ofBits .f32 0x3F800000#32 = 1 := by
  simp [Ideal.ofBits, Ideal.ieee]
  norm_cast
  norm_num

variable (x : FVec Ideal S2x4096x8192 .bf16) (y : FVec Ideal S2x4096x1024 .bf16) (s : FVec Ideal S32 .f32)

theorem v6_apply (b : Fin 2) (r : Fin 4096) (g : Fin 4) (h : Fin 8) (d : Fin 128) :
    val_main_v6 (F := Ideal) x (ix5 b r g h d) = x (ix3 b r ⟨g.val * 1024 + h.val * 128 + d.val, by omega⟩) := by
  pointwise [val_main_v6, val_main_v1, val_main_v0]

theorem v7_apply (b : Fin 2) (t : Fin 4096) (g : Fin 4) (d : Fin 128) :
    val_main_v7 (F := Ideal) y (ix4 b t g d) = y (ix3 b t ⟨g.val * 128 + d.val, by omega⟩) := by
  pointwise [val_main_v7, val_main_v4, val_main_v3]

theorem v8_apply (b : Fin 2) (t : Fin 4096) (g : Fin 4) (d : Fin 128) :
    val_main_v8 (F := Ideal) y (ix4 b t g d) = y (ix3 b t ⟨512 + (g.val * 128 + d.val), by omega⟩) := by
  pointwise [val_main_v8, val_main_v5, val_main_v3]

theorem v10_apply (b : Fin 2) (g : Fin 4) (h : Fin 8) (r t : Fin 4096) :
    val_main_v10 (F := Ideal) x y (ix5 b g h r t)
      = ∑ d : Fin 128, val_main_v7 (F := Ideal) y (ix4 b t g d) * val_main_v6 (F := Ideal) x (ix5 b r g h d) := by
  pointwise [val_main_v10, val_main_v9]

theorem v25_apply (r t : Fin 4096) :
    val_main_v25 (F := Ideal) (ix2 r t) = BitVec.ofBool (decide (t.val ≤ r.val ∧ r.val < t.val + 128)) := by
  rw [← word_window (by omega) (by omega)]
  pointwise [val_main_v25, val_main_v24, val_main_v23, val_main_v22, val_main_v21, val_main_v20, val_main_v19, val_main_v18, val_main_v17,
    val_main_v16, val_main_v15, val_main_v14, val_main_c, val_main_c_0]

theorem v26_apply (b : Fin 2) (g : Fin 4) (h : Fin 8) (r t : Fin 4096) :
    val_main_v26 (F := Ideal) x y (ix5 b g h r t)
      = if t.val ≤ r.val ∧ r.val < t.val + 128 then val_main_v10 (F := Ideal) x y (ix5 b g h r t) * ((Real.log 2 : ℝ) : EReal) else ⊥ := by
  pointwise [val_main_v26, val_main_v13, val_main_v12, val_main_v11, val_main_cst, val_main_call0_v0, val_main_call0_v1, val_main_call0_v2,
    val_main_cst_1]
  rw [v25_apply, log_two, show id (constant (F := Ideal) S_ .f32 0xFF800000#32) ix0 = ⊥ from neg_inf]
  by_cases hw : t.val ≤ r.val ∧ r.val < t.val + 128
  · rw [if_pos hw, decide_eq_true hw]; rfl
  · rw [if_neg hw, decide_eq_false hw]; rfl

theorem v28_apply (b : Fin 2) (g : Fin 4) (h : Fin 8) (r : Fin 4096) :
    val_main_v28 (F := Ideal) s (ix5 b g h r 0) = s (ix1 ⟨g.val * 8 + h.val, by omega⟩) := by
  pointwise [val_main_v28, val_main_v27]

/-- The masked scores, the sink after them. -/
theorem v29_apply (b : Fin 2) (g : Fin 4) (h : Fin 8) (r : Fin 4096) (t : Fin 4097) :
    val_main_v29 (F := Ideal) x y s (ix5 b g h r t)
      = if ht : t.val < 4096 then val_main_v26 (F := Ideal) x y (ix5 b g h r ⟨t.val, ht⟩)
        else val_main_v28 (F := Ideal) s (ix5 b g h r 0) := by
  unfold val_main_v29
  generalize val_main_v26 (F := Ideal) x y = p
  generalize val_main_v28 (F := Ideal) s = q
  split_ifs with ht
  · exact concatenate_pair_apply_left (4 : Fin S2x4x8x4096x4097.rank) p q _ _ rfl _ fun a => by
      match a with
      | ⟨0, _⟩ => rfl
      | ⟨1, _⟩ => rfl
      | ⟨2, _⟩ => rfl
      | ⟨3, _⟩ => rfl
      | ⟨4, _⟩ => rfl
  · refine concatenate_pair_apply_right (4 : Fin S2x4x8x4096x4097.rank) p q _ _ rfl rfl _ (fun a ha => ?_) ?_
    · match a with
      | ⟨0, _⟩ => rfl
      | ⟨1, _⟩ => rfl
      | ⟨2, _⟩ => rfl
      | ⟨3, _⟩ => rfl
      | ⟨4, _⟩ => exact absurd rfl ha
    · have := t.isLt
      show 4096 + 0 = t.val
      omega

theorem v41_apply (b : Fin 2) (g : Fin 4) (h : Fin 8) (r t : Fin 4096) :
    val_main_v41 (F := Ideal) x y s (ix5 b g h r t)
      = Ideal.div (Ideal.exp (val_main_v26 (F := Ideal) x y (ix5 b g h r t) - val_main_v32 (F := Ideal) x y s (ix4 b g h r)))
        ((∑ u : Fin 4096, Ideal.exp (val_main_v26 (F := Ideal) x y (ix5 b g h r u) - val_main_v32 (F := Ideal) x y s (ix4 b g h r)))
          + Ideal.exp (val_main_v28 (F := Ideal) s (ix5 b g h r 0) - val_main_v32 (F := Ideal) x y s (ix4 b g h r))) := by
  have e : ∀ t : Fin 4097, val_main_v36 (F := Ideal) x y s (ix5 b g h r t)
      = Ideal.exp (val_main_v29 (F := Ideal) x y s (ix5 b g h r t) - val_main_v32 (F := Ideal) x y s (ix4 b g h r)) := by
    intro t
    pointwise [val_main_v36, val_main_v35, val_main_v34, val_main_v33]
  have e2 : val_main_v41 (F := Ideal) x y s (ix5 b g h r t)
      = Ideal.div (val_main_v36 (F := Ideal) x y s (ix5 b g h r ⟨t.val, by omega⟩))
        (∑ u : Fin 4097, val_main_v36 (F := Ideal) x y s (ix5 b g h r u)) := by
    pointwise [val_main_v41, val_main_v40, val_main_v39, val_main_v38, val_main_v37, val_main_cst_4]
  rw [e2, Fin.sum_univ_castSucc]
  simp only [e, v29_apply, Fin.val_castSucc, Fin.val_last, t.isLt, dif_pos, Fin.is_lt, lt_irrefl, dif_neg, not_false_eq_true, Fin.eta]

theorem v44_apply (b : Fin 2) (r C : Fin 4096) :
    val_main_v44 (F := Ideal) x y s (ix3 b r C)
      = ∑ t : Fin 4096, val_main_v8 (F := Ideal) y (ix4 b t ⟨C.val / 1024, by omega⟩ ⟨C.val % 128, by omega⟩)
        * val_main_v41 (F := Ideal) x y s (ix5 b ⟨C.val / 1024, by omega⟩ ⟨C.val / 128 % 8, by omega⟩ r t) := by
  pointwise [val_main_v44, val_main_v43, val_main_v42]

theorem v47_apply (b : Fin 2) (r C : Fin 4096) :
    val_main_v47 (F := Ideal) x y s (ix3 b r C)
      = val_main_v44 (F := Ideal) x y s (ix3 b r C)
        * (x (ix3 b r ⟨4096 + C.val, by omega⟩) * Ideal.logistic (x (ix3 b r ⟨4096 + C.val, by omega⟩))) := by
  rw [val_main_v47_apply, val_main_v46_apply, val_main_v45_apply, val_main_call1_v5_apply, val_main_call1_v4_apply, val_main_call1_v3_apply,
   val_main_call1_v2_apply, val_main_call1_v1_apply, val_main_call1_v0_apply, val_main_v2_apply, val_main_v0_apply, val_main_call1_cst_apply,
   val_main_call1_cst_0_apply]
  have e : idx_main_v2 (ix3 b r C) = ix3 b r ⟨4096 + C.val, by omega⟩ := by
    funext a
    match a with
    | ⟨0, _⟩ => rfl
    | ⟨1, _⟩ => rfl
    | ⟨2, _⟩ => rfl
  rw [e]
  generalize val_main_v44 (F := Ideal) x y s (ix3 b r C) = p
  generalize x (ix3 b r ⟨4096 + C.val, by omega⟩) = z
  show p * (z * Ideal.div (Ideal.ofBits .f32 0x3F800000#32) (Ideal.ofBits .f32 0x3F800000#32 + Ideal.exp (-z))) = p * (z * Ideal.logistic z)
  rw [one_bits]
  rfl

theorem exists_ix5 {n0 n1 n2 n3 n4 : ℕ} (i : (⟨5, ![n0, n1, n2, n3, n4]⟩ : Shape).Idx) : ∃ b g h r t, i = ix5 b g h r t := by
  refine ⟨i 0, i 1, i 2, i 3, i 4, ?_⟩
  funext a
  match a with
  | ⟨0, _⟩ => rfl
  | ⟨1, _⟩ => rfl
  | ⟨2, _⟩ => rfl
  | ⟨3, _⟩ => rfl
  | ⟨4, _⟩ => rfl

theorem exists_ix3 {n0 n1 n2 : ℕ} (i : (⟨3, ![n0, n1, n2]⟩ : Shape).Idx) : ∃ b r c, i = ix3 b r c := by
  refine ⟨i 0, i 1, i 2, ?_⟩
  funext a
  match a with
  | ⟨0, _⟩ => rfl
  | ⟨1, _⟩ => rfl
  | ⟨2, _⟩ => rfl

/-- A row's maximum of masked scores and sink is a real, given real scores and sinks: the sink is never masked. -/
theorem v32_real (b : Fin 2) (g : Fin 4) (h : Fin 8) (r : Fin 4096)
    (hs : ∀ b g h r t, IsReal (val_main_v10 (F := Ideal) x y (ix5 b g h r t))) (rs : ∀ i, IsReal (s i)) :
    IsReal (val_main_v32 (F := Ideal) x y s (ix4 b g h r)) := by
  have hi : ∀ i : S2x4x8x4096x4097.Idx, val_main_v29 (F := Ideal) x y s i ≠ ⊤ := by
    intro i
    obtain ⟨b, g, h, r, t, rfl⟩ := exists_ix5 i
    rw [v29_apply]
    split_ifs with ht
    · obtain ⟨e, he⟩ := hs b g h r ⟨t.val, ht⟩
      rw [v26_apply, he, ← EReal.coe_mul]
      split_ifs
      · exact EReal.coe_ne_top _
      · exact bot_ne_top
    · obtain ⟨e, he⟩ := rs (ix1 ⟨g.val * 8 + h.val, by omega⟩)
      rw [v28_apply, he]
      exact EReal.coe_ne_top _
  have h0 : val_main_v29 (F := Ideal) x y s (ix5 b g h r ⟨4096, by decide⟩) ≠ ⊥ := by
    obtain ⟨e, he⟩ := rs (ix1 ⟨g.val * 8 + h.val, by omega⟩)
    rw [v29_apply, dif_neg (lt_irrefl _), v28_apply, he]
    exact EReal.coe_ne_bot _
  have e : val_main_v30 (F := Ideal) x y s (ix4 b g h r)
      = (Finset.univ.filter fun i => reducesTo_S2x4x8x4096x4097_S2x4x8x4096_d4.drop i = ix4 b g h r).fold max
        (Ideal.ofBits .f32 0xFF800000#32) (val_main_v29 (F := Ideal) x y s) :=
    Host.reduce_eq_fold (α := EReal) max _ _ _ _ _
  have hm : val_main_v32 (F := Ideal) x y s (ix4 b g h r)
      = (Finset.univ.filter fun i => reducesTo_S2x4x8x4096x4097_S2x4x8x4096_d4.drop i = ix4 b g h r).fold max
        ⊥ (val_main_v29 (F := Ideal) x y s) := by
    rw [val_main_v32_apply, e, val_main_v31_apply, val_main_cst_3_apply, neg_inf]
    show max (Ideal.ofBits .f32 0xFF800000#32) _ = _
    rw [neg_inf, max_bot_left]
  rw [hm]
  refine ⟨_, (EReal.coe_toReal (fold_max_ne_top _ _ hi) (fold_max_ne_bot _ _ (k := ix5 b g h r ⟨4096, by decide⟩) ?_ h0)).symm⟩
  rw [Finset.mem_filter]
  refine ⟨Finset.mem_univ _, ?_⟩
  funext a
  refine Fin.ext ?_
  match a with
  | ⟨0, _⟩ => exact Shape.ReducesTo.drop_apply_val_of_eq reducesTo_S2x4x8x4096x4097_S2x4x8x4096_d4 _ (0 : Fin S2x4x8x4096.rank) (0 : Fin S2x4x8x4096x4097.rank)
  | ⟨1, _⟩ => exact Shape.ReducesTo.drop_apply_val_of_eq reducesTo_S2x4x8x4096x4097_S2x4x8x4096_d4 _ (1 : Fin S2x4x8x4096.rank) (1 : Fin S2x4x8x4096x4097.rank)
  | ⟨2, _⟩ => exact Shape.ReducesTo.drop_apply_val_of_eq reducesTo_S2x4x8x4096x4097_S2x4x8x4096_d4 _ (2 : Fin S2x4x8x4096.rank) (2 : Fin S2x4x8x4096x4097.rank)
  | ⟨3, _⟩ => exact Shape.ReducesTo.drop_apply_val_of_eq reducesTo_S2x4x8x4096x4097_S2x4x8x4096_d4 _ (3 : Fin S2x4x8x4096.rank) (3 : Fin S2x4x8x4096x4097.rank)

/-- The reference's result is the gated sliding-window attention of its arguments, given real queries, keys and sinks. -/
theorem result_eq (rx : ∀ i : S2x4096x8192.Idx, (i 2).val < 4096 → IsReal (x i)) (ry : ∀ i : S2x4096x1024.Idx, (i 2).val < 512 → IsReal (y i))
    (rs : ∀ i, IsReal (s i)) :
    val_main_v47 (F := Ideal) x y s = fun i : S2x4096x4096.Idx => windowAttn x y s (i 0).val (i 1).val (i 2).val := by
  have hs : ∀ b g h r t, IsReal (val_main_v10 (F := Ideal) x y (ix5 b g h r t)) := by
    intro b g h r t
    rw [v10_apply]
    refine IsReal.sum _ _ fun d => ?_
    rw [v6_apply, v7_apply]
    exact (ry _ (show g.val * 128 + d.val < 512 by omega)).mul (rx _ (show g.val * 1024 + h.val * 128 + d.val < 4096 by omega))
  have hq : ∀ (b : Fin 2) (r C t : Fin 4096),
      val_main_v10 (F := Ideal) x y (ix5 b ⟨C.val / 1024, by omega⟩ ⟨C.val / 128 % 8, by omega⟩ r t)
        = scoreW x y b.val (C.val / 128) r.val t.val := by
    intro b r C t
    rw [v10_apply]
    unfold scoreW
    refine Finset.sum_congr rfl fun d _ => ?_
    rw [v6_apply, v7_apply]
    refine (congrArg₂ (fun a b : EReal => a * b) ?_ ?_).symm
    · exact atKv_fin y b t ⟨C.val / 1024 * 128 + d.val, by omega⟩ (by show 128 * (C.val / 128 / 8) + d.val = C.val / 1024 * 128 + d.val; omega)
    · exact atQz_fin x b r ⟨C.val / 1024 * 1024 + C.val / 128 % 8 * 128 + d.val, by omega⟩ (by
        show 128 * (C.val / 128) + d.val = C.val / 1024 * 1024 + C.val / 128 % 8 * 128 + d.val; omega)
  funext i
  obtain ⟨b, r, C, rfl⟩ := exists_ix3 i
  obtain ⟨M, hM⟩ := v32_real x y s b ⟨C.val / 1024, by omega⟩ ⟨C.val / 128 % 8, by omega⟩ r hs rs
  have hm : ∀ t : Fin 4096, val_main_v26 (F := Ideal) x y (ix5 b ⟨C.val / 1024, by omega⟩ ⟨C.val / 128 % 8, by omega⟩ r t)
      = if t.val ≤ r.val ∧ r.val < t.val + 128 then ((scoreW x y b.val (C.val / 128) r.val t.val).toReal : EReal) * ((Real.log 2 : ℝ) : EReal)
        else ⊥ := by
    intro t
    have := hs b ⟨C.val / 1024, by omega⟩ ⟨C.val / 128 % 8, by omega⟩ r t
    rw [hq] at this
    rw [v26_apply, hq, this.coe_toReal]
  have hk : val_main_v28 (F := Ideal) s (ix5 b ⟨C.val / 1024, by omega⟩ ⟨C.val / 128 % 8, by omega⟩ r 0)
      = ((atSink s (C.val / 128)).toReal : EReal) := by
    have : atSink s (C.val / 128) = s (ix1 ⟨C.val / 1024 * 8 + C.val / 128 % 8, by omega⟩) :=
      atSink_fin s _ (by show C.val / 128 = C.val / 1024 * 8 + C.val / 128 % 8; omega)
    rw [v28_apply, ← this, IsReal.coe_toReal]
    exact rs _
  rw [v47_apply, v44_apply]
  show _ = windowAttn x y s b.val r.val C.val
  unfold windowAttn
  rw [← softmax_eq_wattn _ _ _ _ M]
  refine congrArg₂ (fun a b : EReal => a * b) ?_ ?_
  · rw [← Fin.sum_univ_eq_sum_range (n := 4096), ← Fin.sum_univ_eq_sum_range (n := 4096)]
    refine Finset.sum_congr rfl fun t _ => ?_
    rw [v41_apply, hM, hk, v8_apply, mul_comm]
    simp only [hm]
    rw [atKv_fin y b t ⟨512 + (C.val / 1024 * 128 + C.val % 128), by omega⟩ (by
      show 512 + (128 * (C.val / 1024) + C.val % 128) = 512 + (C.val / 1024 * 128 + C.val % 128); omega)]
  · rw [atQz_fin x b r ⟨4096 + C.val, by omega⟩ rfl]

end Cert.Reference7Ideal.Win
-- ==== Proof.WinFinite.lean ====
/-
  What the precondition of the sliding-window attention says: the packed queries, the packed keys and the sinks are reals.
-/
module

public import proofs.«01_k».proof.Proof.Gen.Pre_finite_window_scores
public import proofs.«01_k».proof.Proof.Finite

@[expose] public section

noncomputable section

namespace Cert.Pre_finite_window_scores.Finite

open Cert.Pre_finite_window_scores Cert.Pre_finite_window_scores.Facts Idealize.ShloMosaic Cert.Softmax Cert.Pre_finite_scores.Finite

instance : Subsingleton S_.Idx := ⟨fun a b => funext fun i => i.elim0⟩

variable [Facts]

/-- The precondition makes the packed queries (the first 4096 columns), the packed keys (the first 512) and the sinks real. -/
theorem real_of_fn (x : FVec Ideal S2x4096x8192 .bf16) (k : FVec Ideal S2x4096x1024 .bf16) (s : FVec Ideal S32 .f32)
    (h : fn (F := Ideal) x k s = fun _ => 1#1) :
    (∀ y : S2x4096x8192.Idx, (y 2).val < 4096 → IsReal (x y)) ∧ (∀ y : S2x4096x1024.Idx, (y 2).val < 512 → IsReal (k y))
      ∧ (∀ y, IsReal (s y)) := by
  have h0 := congrFun h ix0
  obtain ⟨h1, hs⟩ := IntOp.andi_eq_one.1 h0
  obtain ⟨hx, hk⟩ := IntOp.andi_eq_one.1 h1
  refine ⟨fun y hy => ?_, fun y hy => ?_, fun y => ?_⟩
  · have := Host.reduce_andi_all _ _ _ _ _ hx (ix3 ⟨(y 0).val, (y 0).isLt⟩ ⟨(y 1).val, (y 1).isLt⟩ ⟨(y 2).val, hy⟩)
    have e : extractStridedSlice S2x4096x4096 ![0, 0, 0] x slices_S2x4096x8192_S2x4096x4096_0_0_0
        (ix3 ⟨(y 0).val, (y 0).isLt⟩ ⟨(y 1).val, (y 1).isLt⟩ ⟨(y 2).val, hy⟩) = x y := by
      pointwise []
    rw [← e]
    exact isReal_of_abs_lt _ this
  · have := Host.reduce_andi_all _ _ _ _ _ hk (ix3 ⟨(y 0).val, (y 0).isLt⟩ ⟨(y 1).val, (y 1).isLt⟩ ⟨(y 2).val, hy⟩)
    have e : extractStridedSlice S2x4096x512 ![0, 0, 0] k slices_S2x4096x1024_S2x4096x512_0_0_0
        (ix3 ⟨(y 0).val, (y 0).isLt⟩ ⟨(y 1).val, (y 1).isLt⟩ ⟨(y 2).val, hy⟩) = k y := by
      pointwise []
    rw [← e]
    exact isReal_of_abs_lt _ this
  · exact isReal_of_abs_lt _ (Host.reduce_andi_all _ _ _ _ _ hs y)

end Cert.Pre_finite_window_scores.Finite
-- ==== Proof.lean ====
/-
  The certificate: the frames of the kernels and of the references, and the equation of each kernel's result with its
  reference's, both having been shown to compute the same function of the arguments: the two gated attentions, the three
  projections that feed them, and the two layers' output projections, the second with the closing norm.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_window_scores
public import proofs.«01_k».proof.Proof.FoxArray
public import proofs.«01_k».proof.Proof.FoxRef
public import proofs.«01_k».proof.Proof.Finite
public import proofs.«01_k».proof.Proof.QkvzRef
public import proofs.«01_k».proof.Proof.QzRef
public import proofs.«01_k».proof.Proof.KvRef
public import proofs.«01_k».proof.Proof.OutRef
public import proofs.«01_k».proof.Proof.NormRef
public import proofs.«01_k».proof.Proof.NormFrame
public import proofs.«01_k».proof.Proof.WinArray
public import proofs.«01_k».proof.Proof.WinRef
public import proofs.«01_k».proof.Proof.WinFinite
public import Idealize.ShloMosaic.Adequacy
public import Idealize.ShloMosaic.Init

@[expose] public section

noncomputable section

namespace Cert.Proof

open Idealize.ShloMosaic Idealize.SL.Sem

/-- The reference terminates, leaves its arguments unchanged and every counter at zero. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2,
    Idealize.ShloMosaic.sem_eq_zero_of_no_sems (by decide) r.2⟩) (Cert.ReferenceIdeal.Value.run (F := Ideal) m ρ)

/-- On finite scores the kernel's result is the reference's, over the extended reals. -/
theorem algebraic : Cert.algebraic_KernelIdeal_ReferenceIdeal_pre_finite_scores
    (hKernelIdeal := Cert.KernelIdeal.Gen.facts) (hReferenceIdeal := Cert.ReferenceIdeal.Gen.facts)
    (hPre_finite_scores := Cert.Pre_finite_scores.Gen.facts) := by
  intro m ρ m' ρ' hpre hag
  refine ⟨fun c y => Cert.Softmax.gatedAttn (Cert.KernelIdeal.Fox.argX m c) (Cert.KernelIdeal.Fox.argQ m c) (Cert.KernelIdeal.Fox.argK m c)
    (y 0).val (y 1).val (y 2).val, ?_, ?_⟩
  · refine (θ_run (Cert.KernelIdeal.defs (F := Ideal)) _ _).mono (fun r h c => ?_) (Cert.KernelIdeal.Value.run_blocks m ρ)
    obtain ⟨rx, rq, rk⟩ := Cert.Pre_finite_scores.Finite.real_of_fn _ _ _ (hpre c)
    exact ⟨(h c).1.trans (Cert.KernelIdeal.Fox.array_eq m c rx rq rk), (h c).2⟩
  · refine (θ_run (Cert.ReferenceIdeal.defs (F := Ideal)) _ _).mono (fun r h c => ?_) (Cert.ReferenceIdeal.Value.run m' ρ')
    obtain ⟨rx, rq, rk⟩ := Cert.Pre_finite_scores.Finite.real_of_fn _ _ _ (hpre c)
    refine ⟨(h c).1.trans ((Cert.ReferenceIdeal.Read.val_main_v43_eq m' c).trans ?_), (h c).2⟩
    rw [(hag c).1, (hag c).2.1, (hag c).2.2]
    exact Cert.ReferenceIdeal.Attn.result_eq _ _ _ rx rq rk

/-- The reference of program 2 terminates, leaves its arguments unchanged and every counter at zero. -/
theorem frame_reference2 : Cert.quiescent_Reference2Ideal (hReference2Ideal := Cert.Reference2Ideal.Gen.facts) := fun m ρ _ =>
  (θ_run (Cert.Reference2Ideal.defs (F := Ideal)) _ _).mono (fun r h => ⟨fun c => (h c).2,
    Idealize.ShloMosaic.sem_eq_zero_of_no_sems (by decide) r.2⟩) (Cert.Reference2Ideal.Value.run (F := Ideal) m ρ)

/-- The reference of program 3 terminates, leaves its arguments unchanged and every counter at zero. -/
theorem frame_reference3 : Cert.quiescent_Reference3Ideal (hReference3Ideal := Cert.Reference3Ideal.Gen.facts) := fun m ρ _ =>
  (θ_run (Cert.Reference3Ideal.defs (F := Ideal)) _ _).mono (fun r h => ⟨fun c => (h c).2,
    Idealize.ShloMosaic.sem_eq_zero_of_no_sems (by decide) r.2⟩) (Cert.Reference3Ideal.Value.run (F := Ideal) m ρ)

/-- The reference of program 4 terminates, leaves its arguments unchanged and every counter at zero. -/
theorem frame_reference4 : Cert.quiescent_Reference4Ideal (hReference4Ideal := Cert.Reference4Ideal.Gen.facts) := fun m ρ _ =>
  (θ_run (Cert.Reference4Ideal.defs (F := Ideal)) _ _).mono (fun r h => ⟨fun c => (h c).2,
    Idealize.ShloMosaic.sem_eq_zero_of_no_sems (by decide) r.2⟩) (Cert.Reference4Ideal.Value.run (F := Ideal) m ρ)

/-- The reference of program 5 terminates, leaves its arguments unchanged and every counter at zero. -/
theorem frame_reference5 : Cert.quiescent_Reference5Ideal (hReference5Ideal := Cert.Reference5Ideal.Gen.facts) := fun m ρ _ =>
  (θ_run (Cert.Reference5Ideal.defs (F := Ideal)) _ _).mono (fun r h => ⟨fun c => (h c).2,
    Idealize.ShloMosaic.sem_eq_zero_of_no_sems (by decide) r.2⟩) (Cert.Reference5Ideal.Value.run (F := Ideal) m ρ)

/-- The reference of program 6 terminates, leaves its arguments unchanged and every counter at zero. -/
theorem frame_reference6 : Cert.quiescent_Reference6Ideal (hReference6Ideal := Cert.Reference6Ideal.Gen.facts) := fun m ρ _ =>
  (θ_run (Cert.Reference6Ideal.defs (F := Ideal)) _ _).mono (fun r h => ⟨fun c => (h c).2,
    Idealize.ShloMosaic.sem_eq_zero_of_no_sems (by decide) r.2⟩) (Cert.Reference6Ideal.Value.run (F := Ideal) m ρ)

/-- The reference of program 7 terminates, leaves its arguments unchanged and every counter at zero. -/
theorem frame_reference7 : Cert.quiescent_Reference7Ideal (hReference7Ideal := Cert.Reference7Ideal.Gen.facts) := fun m ρ _ =>
  (θ_run (Cert.Reference7Ideal.defs (F := Ideal)) _ _).mono (fun r h => ⟨fun c => (h c).2,
    Idealize.ShloMosaic.sem_eq_zero_of_no_sems (by decide) r.2⟩) (Cert.Reference7Ideal.Value.run (F := Ideal) m ρ)

/-- The one change the idealization of program 2 makes: the attention's scale is named. -/
theorem preserves2 : Cert.preserves_Kernel2_Kernel2Ideal :=
  IdealRules.named_const.statement Cert.Kernel2Ideal.κ "sm_scale" .f32 0x3E0293EE#32 (((Real.sqrt 128)⁻¹ * (Real.log 2)⁻¹ : ℝ) : EReal) rfl

/-- The first layer's projection is its reference. -/
theorem algebraic2 : Cert.algebraic_Kernel2Ideal_Reference2Ideal
    (hKernel2Ideal := Cert.Kernel2Ideal.Gen.facts) (hReference2Ideal := Cert.Reference2Ideal.Gen.facts) := by
  intro m ρ m' ρ' _ hag
  refine ⟨fun c y => Cert.Kernel2Ideal.Qkvz.qkvz (Cert.Kernel2Ideal.Qkvz.argX m c) (Cert.Kernel2Ideal.Qkvz.argW m c)
    (y 0).val (y 1).val, ?_, ?_⟩
  · exact (θ_run (Cert.Kernel2Ideal.defs (F := Ideal)) _ _).mono (fun r h c => ⟨(h c).1.trans (Cert.Kernel2Ideal.Qkvz.array_eq m c), (h c).2⟩)
      (Cert.Kernel2Ideal.Value.run_blocks m ρ)
  · refine (θ_run (Cert.Reference2Ideal.defs (F := Ideal)) _ _).mono (fun r h c => ?_) (Cert.Reference2Ideal.Value.run m' ρ')
    refine ⟨(h c).1.trans ((Cert.Reference2Ideal.Read.val_main_v14_eq _ _).trans ?_), (h c).2⟩
    rw [(hag c).1, (hag c).2]
    exact Cert.Reference2Ideal.Qkvz.result_eq _ _

/-- The second layer's projection to queries and gates is its reference. -/
theorem algebraic3 : Cert.algebraic_Kernel3Ideal_Reference3Ideal
    (hKernel3Ideal := Cert.Kernel3Ideal.Gen.facts) (hReference3Ideal := Cert.Reference3Ideal.Gen.facts) := by
  intro m ρ m' ρ' _ hag
  refine ⟨fun c y => Cert.Kernel3Ideal.Qz.qz (Cert.Kernel3Ideal.Qz.argX m c) (Cert.Kernel3Ideal.Qz.argW m c) (Cert.Kernel3Ideal.Qz.argC m c) (Cert.Kernel3Ideal.Qz.argS m c)
    (y 0).val (y 1).val, ?_, ?_⟩
  · exact (θ_run (Cert.Kernel3Ideal.defs (F := Ideal)) _ _).mono (fun r h c => ⟨(h c).1.trans (Cert.Kernel3Ideal.Qz.array_eq m c), (h c).2⟩)
      (Cert.Kernel3Ideal.Value.run_blocks m ρ)
  · refine (θ_run (Cert.Reference3Ideal.defs (F := Ideal)) _ _).mono (fun r h c => ?_) (Cert.Reference3Ideal.Value.run m' ρ')
    refine ⟨(h c).1.trans ((Cert.Reference3Ideal.Read.val_main_v18_eq _ _ _ _).trans ?_), (h c).2⟩
    rw [(hag c).1, (hag c).2.1, (hag c).2.2.1, (hag c).2.2.2]
    exact Cert.Reference3Ideal.Qz.result_eq _ _ _ _

/-- The first layer's output projection is its reference. -/
theorem algebraic4 : Cert.algebraic_Kernel4Ideal_Reference4Ideal
    (hKernel4Ideal := Cert.Kernel4Ideal.Gen.facts) (hReference4Ideal := Cert.Reference4Ideal.Gen.facts) := by
  intro m ρ m' ρ' _ hag
  refine ⟨fun c y => Cert.Kernel4Ideal.Out.out (Cert.Kernel4Ideal.Out.argA m c) (Cert.Kernel4Ideal.Out.argW m c) (Cert.Kernel4Ideal.Out.argX m c) (Cert.Kernel4Ideal.Out.argG m c)
    ((y 0).val * 4096 + (y 1).val) (y 2).val, ?_, ?_⟩
  · exact Cert.Kernel4Ideal.Out.run_result m ρ
  · refine (θ_run (Cert.Reference4Ideal.defs (F := Ideal)) _ _).mono (fun r h c => ?_) (Cert.Reference4Ideal.Value.run m' ρ')
    refine ⟨(h c).1.trans ((Cert.Reference4Ideal.Read.val_main_v6_eq _ _ _ _).trans ?_), (h c).2⟩
    rw [(hag c).1, (hag c).2.1, (hag c).2.2.1, (hag c).2.2.2]
    exact Cert.Reference4Ideal.Out.result_eq _ _ _ _

/-- The second layer's output projection with the closing norm is its reference. -/
theorem algebraic5 : Cert.algebraic_Kernel5Ideal_Reference5Ideal
    (hKernel5Ideal := Cert.Kernel5Ideal.Gen.facts) (hReference5Ideal := Cert.Reference5Ideal.Gen.facts) := by
  intro m ρ m' ρ' _ hag
  refine ⟨fun c y => Cert.Kernel5Ideal.Norm.normOut (Cert.Kernel5Ideal.Norm.argA m c) (Cert.Kernel5Ideal.Norm.argW m c) (Cert.Kernel5Ideal.Norm.argX m c)
    (Cert.Kernel5Ideal.Norm.argG m c) (Cert.Kernel5Ideal.Norm.argS m c) ((y 0).val * 4096 + (y 1).val) (y 2).val, ?_, ?_⟩
  · exact Cert.Kernel5Ideal.Norm.run_result m ρ
  · refine (θ_run (Cert.Reference5Ideal.defs (F := Ideal)) _ _).mono (fun r h c => ?_) (Cert.Reference5Ideal.Value.run m' ρ')
    refine ⟨(h c).1.trans ((Cert.Reference5Ideal.Read.val_main_v19_eq _ _ _ _ _).trans ?_), (h c).2⟩
    rw [(hag c).1, (hag c).2.1, (hag c).2.2.1, (hag c).2.2.2.1, (hag c).2.2.2.2]
    exact Cert.Reference5Ideal.Norm.result_eq _ _ _ _ _

/-- The second layer's projection to keys and values is its reference. -/
theorem algebraic6 : Cert.algebraic_Kernel6Ideal_Reference6Ideal
    (hKernel6Ideal := Cert.Kernel6Ideal.Gen.facts) (hReference6Ideal := Cert.Reference6Ideal.Gen.facts) := by
  intro m ρ m' ρ' _ hag
  refine ⟨fun c y => Cert.Kernel6Ideal.Kv.kv (Cert.Kernel6Ideal.Kv.argX m c) (Cert.Kernel6Ideal.Kv.argW m c) (Cert.Kernel6Ideal.Kv.argC m c) (Cert.Kernel6Ideal.Kv.argS m c)
    (y 0).val (y 1).val, ?_, ?_⟩
  · exact (θ_run (Cert.Kernel6Ideal.defs (F := Ideal)) _ _).mono (fun r h c => ⟨(h c).1.trans (Cert.Kernel6Ideal.Kv.array_eq m c), (h c).2⟩)
      (Cert.Kernel6Ideal.Value.run_blocks m ρ)
  · refine (θ_run (Cert.Reference6Ideal.defs (F := Ideal)) _ _).mono (fun r h c => ?_) (Cert.Reference6Ideal.Value.run m' ρ')
    refine ⟨(h c).1.trans ((Cert.Reference6Ideal.Read.val_main_v16_eq _ _ _ _).trans ?_), (h c).2⟩
    rw [(hag c).1, (hag c).2.1, (hag c).2.2.1, (hag c).2.2.2]
    exact Cert.Reference6Ideal.Kv.result_eq _ _ _ _

/-- The one change the idealization of program 7 makes: the base-two logarithm of e is named. -/
theorem preserves7 : Cert.preserves_Kernel7_Kernel7Ideal :=
  IdealRules.named_const.statement Cert.Kernel7Ideal.κ "log2e" .f32 0x3FB8AA3B#32 (((Real.log 2)⁻¹ : ℝ) : EReal) rfl

/-- On finite scores and sinks the sliding-window attention is its reference. -/
theorem algebraic7 : Cert.algebraic_Kernel7Ideal_Reference7Ideal_pre_finite_window_scores
    (hKernel7Ideal := Cert.Kernel7Ideal.Gen.facts) (hReference7Ideal := Cert.Reference7Ideal.Gen.facts)
    (hPre_finite_window_scores := Cert.Pre_finite_window_scores.Gen.facts) := by
  intro m ρ m' ρ' hpre hag
  refine ⟨fun c y => Cert.Softmax.windowAttn (Cert.Kernel7Ideal.Win.argX m c) (Cert.Kernel7Ideal.Win.argY m c) (Cert.Kernel7Ideal.Win.argS m c)
    (y 0).val (y 1).val (y 2).val, ?_, ?_⟩
  · refine (θ_run (Cert.Kernel7Ideal.defs (F := Ideal)) _ _).mono (fun r h c => ?_) (Cert.Kernel7Ideal.Value.run_blocks m ρ)
    obtain ⟨rx, ry, rs⟩ := Cert.Pre_finite_window_scores.Finite.real_of_fn _ _ _ (hpre c)
    exact ⟨(h c).1.trans (Cert.Kernel7Ideal.Win.array_eq m c rx ry rs), (h c).2⟩
  · refine (θ_run (Cert.Reference7Ideal.defs (F := Ideal)) _ _).mono (fun r h c => ?_) (Cert.Reference7Ideal.Value.run m' ρ')
    obtain ⟨rx, ry, rs⟩ := Cert.Pre_finite_window_scores.Finite.real_of_fn _ _ _ (hpre c)
    refine ⟨(h c).1.trans ((Cert.Reference7Ideal.Read.val_main_v47_eq m' c).trans ?_), (h c).2⟩
    rw [(hag c).1, (hag c).2.1, (hag c).2.2]
    exact Cert.Reference7Ideal.Win.result_eq _ _ _ (fun {i} => rx i) (fun {i} => ry i) rs

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite_scores.Gen.facts,
  Cert.Pre_finite_window_scores.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  Cert.Kernel5.Body.frame, fun m ρ _ => Cert.Kernel5Ideal.Body.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ,
  fun m ρ _ => Cert.Kernel7Ideal.Gen.frame m ρ, frame_reference7, fun m ρ _ => frame_reference7 m ρ trivial, trivial, algebraic,
  preserves2, algebraic2, trivial, algebraic3, trivial, algebraic4, trivial, algebraic5, trivial, algebraic6,
  preserves7, algebraic7⟩

end Cert.Proof

end
